-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_digits_in_range [hPre_digits_in_range : Cert.Pre_digits_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_digits_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_digits_in_range [hPre_digits_in_range : Cert.Pre_digits_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_digits_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_digits_in_range [hKernelIdeal : Cert.KernelIdeal.Facts] [hPre_digits_in_range : Cert.Pre_digits_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_digits_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_digits_in_range [hReferenceIdeal : Cert.ReferenceIdeal.Facts] [hPre_digits_in_range : Cert.Pre_digits_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_digits_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  True

def algebraic_KernelIdeal_ReferenceIdeal_pre_digits_in_range [hKernelIdeal : Cert.KernelIdeal.Facts] [hReferenceIdeal : Cert.ReferenceIdeal.Facts] [hPre_digits_in_range : Cert.Pre_digits_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_digits_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v15_4)) (v1 : (c : Dev Cert.KernelIdeal.nD) → Buf (Elt Ideal) ((c.tc : Thread Cert.KernelIdeal.nD Cert.KernelIdeal.τ).loc Cert.KernelIdeal.main_v15_0)) (v2 : (c : Dev Cert.KernelIdeal.nD) → Buf (Elt Ideal) ((c.tc : Thread Cert.KernelIdeal.nD Cert.KernelIdeal.τ).loc Cert.KernelIdeal.main_v15_1)) (v3 : (c : Dev Cert.KernelIdeal.nD) → Buf (Elt Ideal) ((c.tc : Thread Cert.KernelIdeal.nD Cert.KernelIdeal.τ).loc Cert.KernelIdeal.main_v15_2)) (v4 : (c : Dev Cert.KernelIdeal.nD) → Buf (Elt Ideal) ((c.tc : Thread Cert.KernelIdeal.nD Cert.KernelIdeal.τ).loc Cert.KernelIdeal.main_v15_3)) (v5 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_4) = v0 c
          ∧ r.2.mem ((c.tc : Thread Cert.KernelIdeal.nD Cert.KernelIdeal.τ).loc Cert.KernelIdeal.main_v15_0) = v1 c
          ∧ r.2.mem ((c.tc : Thread Cert.KernelIdeal.nD Cert.KernelIdeal.τ).loc Cert.KernelIdeal.main_v15_1) = v2 c
          ∧ r.2.mem ((c.tc : Thread Cert.KernelIdeal.nD Cert.KernelIdeal.τ).loc Cert.KernelIdeal.main_v15_2) = v3 c
          ∧ r.2.mem ((c.tc : Thread Cert.KernelIdeal.nD Cert.KernelIdeal.τ).loc Cert.KernelIdeal.main_v15_3) = v4 c
          ∧ r.2.mem ((c.tc : Thread Cert.KernelIdeal.nD Cert.KernelIdeal.τ).loc Cert.KernelIdeal.main_v9) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_v45) = v3 c
          ∧ r.2.mem ((c.tc : Thread Cert.ReferenceIdeal.nD Cert.ReferenceIdeal.τ).loc Cert.ReferenceIdeal.main_v50) = v4 c
          ∧ r.2.mem ((c.tc : Thread Cert.ReferenceIdeal.nD Cert.ReferenceIdeal.τ).loc Cert.ReferenceIdeal.main_v51) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_digits_in_range : Cert.Pre_digits_in_range.Facts),
    quiescent_Kernel (hKernel := hKernel)
    ∧ quiescent_KernelIdeal (hKernelIdeal := hKernelIdeal)
    ∧ quiescent_KernelIdeal_pre_digits_in_range (hKernelIdeal := hKernelIdeal) (hPre_digits_in_range := hPre_digits_in_range)
    ∧ quiescent_ReferenceIdeal (hReferenceIdeal := hReferenceIdeal)
    ∧ quiescent_ReferenceIdeal_pre_digits_in_range (hReferenceIdeal := hReferenceIdeal) (hPre_digits_in_range := hPre_digits_in_range)
    ∧ preserves_Kernel_KernelIdeal
    ∧ algebraic_KernelIdeal_ReferenceIdeal_pre_digits_in_range (hKernelIdeal := hKernelIdeal) (hReferenceIdeal := hReferenceIdeal) (hPre_digits_in_range := hPre_digits_in_range)
-- ==== Pre_digits_in_range.lean ====
abbrev S8x1024x5 : Shape := ⟨3, ![8, 1024, 5]⟩
abbrev S3x128 : Shape := ⟨2, ![3, 128]⟩
abbrev S1025x128 : Shape := ⟨2, ![1025, 128]⟩
abbrev S640x640 : Shape := ⟨2, ![640, 640]⟩
abbrev S640 : Shape := ⟨1, ![640]⟩
abbrev S3x640 : Shape := ⟨2, ![3, 640]⟩
abbrev S3 : Shape := ⟨1, ![3]⟩
abbrev S1024x640 : Shape := ⟨2, ![1024, 640]⟩
abbrev S1024 : Shape := ⟨1, ![1024]⟩
abbrev S_ : Shape := ⟨0, ![]⟩

class Facts : Prop where
  bcast_S_S8x1024x5 : S_.BroadcastsInDim S8x1024x5 (![] : Fin 0 → Fin S8x1024x5.rank)

variable [Facts]

def fn {F : FTy → Type} [FloatOps F] (main_arg0 : IVec S8x1024x5 32) (main_arg1 : FVec F S3x128 .f32) (main_arg2 : FVec F S1025x128 .f32) (main_arg3 : FVec F S1025x128 .f32) (main_arg4 : FVec F S1025x128 .f32) (main_arg5 : FVec F S1025x128 .f32) (main_arg6 : FVec F S640x640 .f32) (main_arg7 : FVec F S640x640 .f32) (main_arg8 : FVec F S640 .f32) (main_arg9 : FVec F S640 .f32) (main_arg10 : FVec F S3x640 .f32) (main_arg11 : FVec F S3 .f32) (main_arg12 : FVec F S1024x640 .f32) (main_arg13 : FVec F S1024 .f32) (main_arg14 : FVec F S1024x640 .f32) (main_arg15 : FVec F S1024 .f32) (main_arg16 : FVec F S1024x640 .f32) (main_arg17 : FVec F S1024 .f32) (main_arg18 : FVec F S1024x640 .f32) (main_arg19 : FVec F S1024 .f32) : IVec S8x1024x5 1 :=
  let main_c : IVec S_ 32 := constantI S_ 32 0#32
  let main_v0 : IVec S8x1024x5 32 := broadcastInDim S8x1024x5 ![] bcast_S_S8x1024x5 main_c
  let main_v1 : IVec S8x1024x5 1 := cmpi .sge main_arg0 main_v0
  let main_c_0 : IVec S_ 32 := constantI S_ 32 3#32
  let main_v2 : IVec S8x1024x5 32 := broadcastInDim S8x1024x5 ![] bcast_S_S8x1024x5 main_c_0
  let main_v3 : IVec S8x1024x5 1 := cmpi .slt main_arg0 main_v2
  let main_v4 : IVec S8x1024x5 1 := andi main_v1 main_v3
  main_v4
-- ==== Kernel.lean ====
abbrev S8x1024x5 : Shape := ⟨3, ![8, 1024, 5]⟩
abbrev S3x128 : Shape := ⟨2, ![3, 128]⟩
abbrev S1025x128 : Shape := ⟨2, ![1025, 128]⟩
abbrev S640x640 : Shape := ⟨2, ![640, 640]⟩
abbrev S640 : Shape := ⟨1, ![640]⟩
abbrev S3x640 : Shape := ⟨2, ![3, 640]⟩
abbrev S3 : Shape := ⟨1, ![3]⟩
abbrev S1024x640 : Shape := ⟨2, ![1024, 640]⟩
abbrev S1024 : Shape := ⟨1, ![1024]⟩
abbrev S1024x8x5 : Shape := ⟨3, ![1024, 8, 5]⟩
abbrev S8192x5 : Shape := ⟨2, ![8192, 5]⟩
abbrev S1x640 : Shape := ⟨2, ![1, 640]⟩
abbrev S8192x640 : Shape := ⟨2, ![8192, 640]⟩
abbrev S640x128 : Shape := ⟨2, ![640, 128]⟩
abbrev S5x640 : Shape := ⟨2, ![5, 640]⟩
abbrev S8x640 : Shape := ⟨2, ![8, 640]⟩
abbrev S40x640 : Shape := ⟨2, ![40, 640]⟩
abbrev S8192x40 : Shape := ⟨2, ![8192, 40]⟩
abbrev S8192x1 : Shape := ⟨2, ![8192, 1]⟩
abbrev S8192 : Shape := ⟨1, ![8192]⟩
abbrev S1024x8x640 : Shape := ⟨3, ![1024, 8, 640]⟩
abbrev S8x1024x640 : Shape := ⟨3, ![8, 1024, 640]⟩
abbrev S8x1x640 : Shape := ⟨3, ![8, 1, 640]⟩
abbrev S1x8x640 : Shape := ⟨3, ![1, 8, 640]⟩
abbrev S1x1024 : Shape := ⟨2, ![1, 1024]⟩
abbrev S1x3 : Shape := ⟨2, ![1, 3]⟩
abbrev S8x1024x1024 : Shape := ⟨3, ![8, 1024, 1024]⟩
abbrev S8x1024x3 : Shape := ⟨3, ![8, 1024, 3]⟩
abbrev S1x1024x640 : Shape := ⟨3, ![1, 1024, 640]⟩
abbrev S1x1024x1024 : Shape := ⟨3, ![1, 1024, 1024]⟩
abbrev S1x1024x3 : Shape := ⟨3, ![1, 1024, 3]⟩
abbrev S1024x1024 : Shape := ⟨2, ![1024, 1024]⟩
abbrev S1024x3 : Shape := ⟨2, ![1024, 3]⟩

abbrev nBuf : Space → Nat
  | .hbm => 40
  | .vmem => 33
  | .smem => 0
  | _ => 0

abbrev bufTy : (tb : Table) → Fin (tcTables nBuf tb) → BufTy
  | .hbm, ⟨0, _⟩ => ⟨S8x1024x5, .i32⟩
  | .hbm, ⟨1, _⟩ => ⟨S3x128, .f32⟩
  | .hbm, ⟨2, _⟩ => ⟨S1025x128, .f32⟩
  | .hbm, ⟨3, _⟩ => ⟨S1025x128, .f32⟩
  | .hbm, ⟨4, _⟩ => ⟨S1025x128, .f32⟩
  | .hbm, ⟨5, _⟩ => ⟨S1025x128, .f32⟩
  | .hbm, ⟨6, _⟩ => ⟨S640x640, .f32⟩
  | .hbm, ⟨7, _⟩ => ⟨S640x640, .f32⟩
  | .hbm, ⟨8, _⟩ => ⟨S640, .f32⟩
  | .hbm, ⟨9, _⟩ => ⟨S640, .f32⟩
  | .hbm, ⟨10, _⟩ => ⟨S3x640, .f32⟩
  | .hbm, ⟨11, _⟩ => ⟨S3, .f32⟩
  | .hbm, ⟨12, _⟩ => ⟨S1024x640, .f32⟩
  | .hbm, ⟨13, _⟩ => ⟨S1024, .f32⟩
  | .hbm, ⟨14, _⟩ => ⟨S1024x640, .f32⟩
  | .hbm, ⟨15, _⟩ => ⟨S1024, .f32⟩
  | .hbm, ⟨16, _⟩ => ⟨S1024x640, .f32⟩
  | .hbm, ⟨17, _⟩ => ⟨S1024, .f32⟩
  | .hbm, ⟨18, _⟩ => ⟨S1024x640, .f32⟩
  | .hbm, ⟨19, _⟩ => ⟨S1024, .f32⟩
  | .hbm, ⟨20, _⟩ => ⟨S1024x8x5, .i32⟩
  | .hbm, ⟨21, _⟩ => ⟨S8192x5, .i32⟩
  | .hbm, ⟨22, _⟩ => ⟨S1x640, .f32⟩
  | .hbm, ⟨23, _⟩ => ⟨S1x640, .f32⟩
  | .hbm, ⟨24, _⟩ => ⟨S8192x640, .f32⟩
  | .hbm, ⟨25, _⟩ => ⟨S1024x8x640, .f32⟩
  | .hbm, ⟨26, _⟩ => ⟨S8x1024x640, .f32⟩
  | .hbm, ⟨27, _⟩ => ⟨S8x1x640, .f32⟩
  | .hbm, ⟨28, _⟩ => ⟨S8x640, .f32⟩
  | .hbm, ⟨29, _⟩ => ⟨S1x8x640, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x3, .f32⟩
  | .hbm, ⟨35, _⟩ => ⟨S8x1024x1024, .f32⟩
  | .hbm, ⟨36, _⟩ => ⟨S8x1024x1024, .f32⟩
  | .hbm, ⟨37, _⟩ => ⟨S8x1024x1024, .f32⟩
  | .hbm, ⟨38, _⟩ => ⟨S8x1024x1024, .f32⟩
  | .hbm, ⟨39, _⟩ => ⟨S8x1024x3, .f32⟩
  | .local _ .vmem, ⟨0, _⟩ => ⟨S8192x5, .i32⟩
  | .local _ .vmem, ⟨1, _⟩ => ⟨S3x128, .f32⟩
  | .local _ .vmem, ⟨2, _⟩ => ⟨S1025x128, .f32⟩
  | .local _ .vmem, ⟨3, _⟩ => ⟨S1025x128, .f32⟩
  | .local _ .vmem, ⟨4, _⟩ => ⟨S1025x128, .f32⟩
  | .local _ .vmem, ⟨5, _⟩ => ⟨S1025x128, .f32⟩
  | .local _ .vmem, ⟨6, _⟩ => ⟨S640x640, .f32⟩
  | .local _ .vmem, ⟨7, _⟩ => ⟨S640x640, .f32⟩
  | .local _ .vmem, ⟨8, _⟩ => ⟨S1x640, .f32⟩
  | .local _ .vmem, ⟨9, _⟩ => ⟨S1x640, .f32⟩
  | .local _ .vmem, ⟨10, _⟩ => ⟨S8192x640, .f32⟩
  | .local _ .vmem, ⟨11, _⟩ => ⟨S1x1024x640, .f32⟩
  | .local _ .vmem, ⟨12, _⟩ => ⟨S1x1024x640, .f32⟩
  | .local _ .vmem, ⟨13, _⟩ => ⟨S1024x640, .f32⟩
  | .local _ .vmem, ⟨14, _⟩ => ⟨S1024x640, .f32⟩
  | .local _ .vmem, ⟨15, _⟩ => ⟨S1024x640, .f32⟩
  | .local _ .vmem, ⟨16, _⟩ => ⟨S1024x640, .f32⟩
  | .local _ .vmem, ⟨17, _⟩ => ⟨S3x640, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x3, .f32⟩
  | .local _ .vmem, ⟨23, _⟩ => ⟨S1x1024x1024, .f32⟩
  | .local _ .vmem, ⟨24, _⟩ => ⟨S1x1024x1024, .f32⟩
  | .local _ .vmem, ⟨25, _⟩ => ⟨S1x1024x1024, .f32⟩
  | .local _ .vmem, ⟨26, _⟩ => ⟨S1x1024x1024, .f32⟩
  | .local _ .vmem, ⟨27, _⟩ => ⟨S1x1024x1024, .f32⟩
  | .local _ .vmem, ⟨28, _⟩ => ⟨S1x1024x1024, .f32⟩
  | .local _ .vmem, ⟨29, _⟩ => ⟨S1x1024x1024, .f32⟩
  | .local _ .vmem, ⟨30, _⟩ => ⟨S1x1024x1024, .f32⟩
  | .local _ .vmem, ⟨31, _⟩ => ⟨S1x1024x3, .f32⟩
  | .local _ .vmem, ⟨32, _⟩ => ⟨S1x1024x3, .f32⟩
  | _, _ => ⟨S8x1024x5, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15_0 : Ref sig .tc := ⟨.hbm, 35, rfl⟩
abbrev main_v15_1 : Ref sig .tc := ⟨.hbm, 36, rfl⟩
abbrev main_v15_2 : Ref sig .tc := ⟨.hbm, 37, rfl⟩
abbrev main_v15_3 : Ref sig .tc := ⟨.hbm, 38, rfl⟩
abbrev main_v15_4 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc1_stg11_0 : Ref sig .tc := ⟨.vmem, 23, rfl⟩
abbrev cc1_stg11_1 : Ref sig .tc := ⟨.vmem, 24, rfl⟩
abbrev cc1_stg12_0 : Ref sig .tc := ⟨.vmem, 25, rfl⟩
abbrev cc1_stg12_1 : Ref sig .tc := ⟨.vmem, 26, rfl⟩
abbrev cc1_stg13_0 : Ref sig .tc := ⟨.vmem, 27, rfl⟩
abbrev cc1_stg13_1 : Ref sig .tc := ⟨.vmem, 28, rfl⟩
abbrev cc1_stg14_0 : Ref sig .tc := ⟨.vmem, 29, rfl⟩
abbrev cc1_stg14_1 : Ref sig .tc := ⟨.vmem, 30, rfl⟩
abbrev cc1_stg15_0 : Ref sig .tc := ⟨.vmem, 31, rfl⟩
abbrev cc1_stg15_1 : Ref sig .tc := ⟨.vmem, 32, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem11_0 : DmaSem sig := 23
abbrev cc1_sem11_1 : DmaSem sig := 24
abbrev cc1_sem12_0 : DmaSem sig := 25
abbrev cc1_sem12_1 : DmaSem sig := 26
abbrev cc1_sem13_0 : DmaSem sig := 27
abbrev cc1_sem13_1 : DmaSem sig := 28
abbrev cc1_sem14_0 : DmaSem sig := 29
abbrev cc1_sem14_1 : DmaSem sig := 30
abbrev cc1_sem15_0 : DmaSem sig := 31
abbrev cc1_sem15_1 : DmaSem sig := 32

abbrev nD : Nat := 1
abbrev τ : Topo := Topo.v7x

variable {F : FTy → Type} [FloatOps F]

abbrev grid0 : Pipeline.Grid := .none

@[reducible] def k0_t1_loop : Scf.Loop 32 :=
  let c0_i32_37 : BitVec 32 := 0#32
  let c1024_i32 : BitVec 32 := 1024#32
  let v96 : BitVec 32 := Scalar.addi c0_i32_37 c1024_i32
  let c1_i32 : BitVec 32 := 1#32
  ⟨c0_i32_37, v96, c1_i32⟩
def k0_off1 (k0_t1 : Fin k0_t1_loop.trips) : Fin 2 → Nat :=
  let c0_i32_37 : BitVec 32 := 0#32
  let c1_i32 : BitVec 32 := 1#32
  let arg11 : BitVec 32 := Scf.iv c0_i32_37 c1_i32 k0_t1
  let c8_i32_39 : BitVec 32 := 8#32
  let v98 : BitVec 32 := Scalar.muli arg11 c8_i32_39
  let v100 : Index := Scalar.indexCast v98
  let c0_41 : Index := 0#32
  ![v100.toNat, 0]
abbrev stage0_0 : Fin 1 → Memref sig .tc .vmem S8192x5 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1025x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1025x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1025x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1025x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S640x640 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S640x640 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x640 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x640 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8192x640 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_14 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_15 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x640 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x640 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x640 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x640 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x640 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S3x640 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x3 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S1x1024x1024 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S1x1024x1024 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S1x1024x1024 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S1x1024x1024 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S1x1024x3 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]
-- ==== ReferenceIdeal.lean ====
abbrev S8x1024x5 : Shape := ⟨3, ![8, 1024, 5]⟩
abbrev S3x128 : Shape := ⟨2, ![3, 128]⟩
abbrev S1025x128 : Shape := ⟨2, ![1025, 128]⟩
abbrev S640x640 : Shape := ⟨2, ![640, 640]⟩
abbrev S640 : Shape := ⟨1, ![640]⟩
abbrev S3x640 : Shape := ⟨2, ![3, 640]⟩
abbrev S3 : Shape := ⟨1, ![3]⟩
abbrev S1024x640 : Shape := ⟨2, ![1024, 640]⟩
abbrev S1024 : Shape := ⟨1, ![1024]⟩
abbrev S8x1024x1 : Shape := ⟨3, ![8, 1024, 1]⟩
abbrev S8x1024 : Shape := ⟨2, ![8, 1024]⟩
abbrev S_ : Shape := ⟨0, ![]⟩
abbrev S1 : Shape := ⟨1, ![1]⟩
abbrev S1x1x1 : Shape := ⟨3, ![1, 1, 1]⟩
abbrev S8x1024x128 : Shape := ⟨3, ![8, 1024, 128]⟩
abbrev S8x1024x640 : Shape := ⟨3, ![8, 1024, 640]⟩
abbrev S1024x8x640 : Shape := ⟨3, ![1024, 8, 640]⟩
abbrev S1x1x640 : Shape := ⟨3, ![1, 1, 640]⟩
abbrev S8x640 : Shape := ⟨2, ![8, 640]⟩
abbrev S1x8x640 : Shape := ⟨3, ![1, 8, 640]⟩
abbrev S1x640 : Shape := ⟨2, ![1, 640]⟩
abbrev S640x3 : Shape := ⟨2, ![640, 3]⟩
abbrev S8x1024x3 : Shape := ⟨3, ![8, 1024, 3]⟩
abbrev S1x1x3 : Shape := ⟨3, ![1, 1, 3]⟩
abbrev S640x1024 : Shape := ⟨2, ![640, 1024]⟩
abbrev S8x1024x1024 : Shape := ⟨3, ![8, 1024, 1024]⟩
abbrev S1x1x1024 : Shape := ⟨3, ![1, 1, 1024]⟩

abbrev nBuf : Space → Nat
  | .hbm => 209
  | .vmem => 0
  | .smem => 0
  | _ => 0

abbrev hbmTy0_0 (i : Nat) : BufTy := match i % 128 with
  | 0 => ⟨S8x1024x5, .i32⟩
  | 1 => ⟨S3x128, .f32⟩
  | 2 => ⟨S1025x128, .f32⟩
  | 3 => ⟨S1025x128, .f32⟩
  | 4 => ⟨S1025x128, .f32⟩
  | 5 => ⟨S1025x128, .f32⟩
  | 6 => ⟨S640x640, .f32⟩
  | 7 => ⟨S640x640, .f32⟩
  | 8 => ⟨S640, .f32⟩
  | 9 => ⟨S640, .f32⟩
  | 10 => ⟨S3x640, .f32⟩
  | 11 => ⟨S3, .f32⟩
  | 12 => ⟨S1024x640, .f32⟩
  | 13 => ⟨S1024, .f32⟩
  | 14 => ⟨S1024x640, .f32⟩
  | 15 => ⟨S1024, .f32⟩
  | 16 => ⟨S1024x640, .f32⟩
  | 17 => ⟨S1024, .f32⟩
  | 18 => ⟨S1024x640, .f32⟩
  | 19 => ⟨S1024, .f32⟩
  | 20 => ⟨S8x1024x1, .i32⟩
  | 21 => ⟨S8x1024, .i32⟩
  | 22 => ⟨S8x1024x1, .i32⟩
  | 23 => ⟨S8x1024, .i32⟩
  | 24 => ⟨S8x1024x1, .i32⟩
  | 25 => ⟨S8x1024, .i32⟩
  | 26 => ⟨S8x1024x1, .i32⟩
  | 27 => ⟨S8x1024, .i32⟩
  | 28 => ⟨S8x1024x1, .i32⟩
  | 29 => ⟨S8x1024, .i32⟩
  | 30 => ⟨S_, .i32⟩
  | 31 => ⟨S8x1024, .i32⟩
  | 32 => ⟨S8x1024, .i1⟩
  | 33 => ⟨S_, .i32⟩
  | 34 => ⟨S8x1024, .i32⟩
  | 35 => ⟨S8x1024, .i32⟩
  | 36 => ⟨S8x1024, .i32⟩
  | 37 => ⟨S8x1024x1, .i32⟩
  | 38 => ⟨S1, .i32⟩
  | 39 => ⟨S_, .i32⟩
  | 40 => ⟨S8x1024x1, .i32⟩
  | 41 => ⟨S8x1024x1, .i1⟩
  | 42 => ⟨S1x1x1, .i32⟩
  | 43 => ⟨S8x1024x1, .i32⟩
  | 44 => ⟨S8x1024x1, .i1⟩
  | 45 => ⟨S8x1024x1, .i1⟩
  | 46 => ⟨S_, .i1⟩
  | 47 => ⟨S8x1024, .i1⟩
  | 48 => ⟨S8x1024x128, .f32⟩
  | 49 => ⟨S8x1024x128, .i1⟩
  | 50 => ⟨S_, .f32⟩
  | 51 => ⟨S8x1024x128, .f32⟩
  | 52 => ⟨S8x1024x128, .f32⟩
  | 53 => ⟨S_, .i32⟩
  | 54 => ⟨S8x1024, .i32⟩
  | 55 => ⟨S8x1024, .i1⟩
  | 56 => ⟨S_, .i32⟩
  | 57 => ⟨S8x1024, .i32⟩
  | 58 => ⟨S8x1024, .i32⟩
  | 59 => ⟨S8x1024, .i32⟩
  | 60 => ⟨S8x1024x1, .i32⟩
  | 61 => ⟨S1, .i32⟩
  | 62 => ⟨S_, .i32⟩
  | 63 => ⟨S8x1024x1, .i32⟩
  | 64 => ⟨S8x1024x1, .i1⟩
  | 65 => ⟨S1x1x1, .i32⟩
  | 66 => ⟨S8x1024x1, .i32⟩
  | 67 => ⟨S8x1024x1, .i1⟩
  | 68 => ⟨S8x1024x1, .i1⟩
  | 69 => ⟨S_, .i1⟩
  | 70 => ⟨S8x1024, .i1⟩
  | 71 => ⟨S8x1024x128, .f32⟩
  | 72 => ⟨S8x1024x128, .i1⟩
  | 73 => ⟨S_, .f32⟩
  | 74 => ⟨S8x1024x128, .f32⟩
  | 75 => ⟨S8x1024x128, .f32⟩
  | 76 => ⟨S_, .i32⟩
  | 77 => ⟨S8x1024, .i32⟩
  | 78 => ⟨S8x1024, .i1⟩
  | 79 => ⟨S_, .i32⟩
  | 80 => ⟨S8x1024, .i32⟩
  | 81 => ⟨S8x1024, .i32⟩
  | 82 => ⟨S8x1024, .i32⟩
  | 83 => ⟨S8x1024x1, .i32⟩
  | 84 => ⟨S1, .i32⟩
  | 85 => ⟨S_, .i32⟩
  | 86 => ⟨S8x1024x1, .i32⟩
  | 87 => ⟨S8x1024x1, .i1⟩
  | 88 => ⟨S1x1x1, .i32⟩
  | 89 => ⟨S8x1024x1, .i32⟩
  | 90 => ⟨S8x1024x1, .i1⟩
  | 91 => ⟨S8x1024x1, .i1⟩
  | 92 => ⟨S_, .i1⟩
  | 93 => ⟨S8x1024, .i1⟩
  | 94 => ⟨S8x1024x128, .f32⟩
  | 95 => ⟨S8x1024x128, .i1⟩
  | 96 => ⟨S_, .f32⟩
  | 97 => ⟨S8x1024x128, .f32⟩
  | 98 => ⟨S8x1024x128, .f32⟩
  | 99 => ⟨S_, .i32⟩
  | 100 => ⟨S8x1024, .i32⟩
  | 101 => ⟨S8x1024, .i1⟩
  | 102 => ⟨S_, .i32⟩
  | 103 => ⟨S8x1024, .i32⟩
  | 104 => ⟨S8x1024, .i32⟩
  | 105 => ⟨S8x1024, .i32⟩
  | 106 => ⟨S8x1024x1, .i32⟩
  | 107 => ⟨S1, .i32⟩
  | 108 => ⟨S_, .i32⟩
  | 109 => ⟨S8x1024x1, .i32⟩
  | 110 => ⟨S8x1024x1, .i1⟩
  | 111 => ⟨S1x1x1, .i32⟩
  | 112 => ⟨S8x1024x1, .i32⟩
  | 113 => ⟨S8x1024x1, .i1⟩
  | 114 => ⟨S8x1024x1, .i1⟩
  | 115 => ⟨S_, .i1⟩
  | 116 => ⟨S8x1024, .i1⟩
  | 117 => ⟨S8x1024x128, .f32⟩
  | 118 => ⟨S8x1024x128, .i1⟩
  | 119 => ⟨S_, .f32⟩
  | 120 => ⟨S8x1024x128, .f32⟩
  | 121 => ⟨S8x1024x128, .f32⟩
  | 122 => ⟨S_, .i32⟩
  | 123 => ⟨S8x1024, .i32⟩
  | 124 => ⟨S8x1024, .i1⟩
  | 125 => ⟨S_, .i32⟩
  | 126 => ⟨S8x1024, .i32⟩
  | 127 => ⟨S8x1024, .i32⟩
  | _ => ⟨S8x1024x5, .i32⟩

abbrev hbmTy0_1 (i : Nat) : BufTy := match i % 128 with
  | 0 => ⟨S8x1024, .i32⟩
  | 1 => ⟨S8x1024x1, .i32⟩
  | 2 => ⟨S1, .i32⟩
  | 3 => ⟨S_, .i32⟩
  | 4 => ⟨S8x1024x1, .i32⟩
  | 5 => ⟨S8x1024x1, .i1⟩
  | 6 => ⟨S1x1x1, .i32⟩
  | 7 => ⟨S8x1024x1, .i32⟩
  | 8 => ⟨S8x1024x1, .i1⟩
  | 9 => ⟨S8x1024x1, .i1⟩
  | 10 => ⟨S_, .i1⟩
  | 11 => ⟨S8x1024, .i1⟩
  | 12 => ⟨S8x1024x128, .f32⟩
  | 13 => ⟨S8x1024x128, .i1⟩
  | 14 => ⟨S_, .f32⟩
  | 15 => ⟨S8x1024x128, .f32⟩
  | 16 => ⟨S8x1024x128, .f32⟩
  | 17 => ⟨S8x1024x640, .f32⟩
  | 18 => ⟨S1024x8x640, .f32⟩
  | 19 => ⟨S640x640, .f32⟩
  | 20 => ⟨S1024x8x640, .f32⟩
  | 21 => ⟨S1x1x640, .f32⟩
  | 22 => ⟨S1024x8x640, .f32⟩
  | 23 => ⟨S1024x8x640, .f32⟩
  | 24 => ⟨S_, .f32⟩
  | 25 => ⟨S8x640, .f32⟩
  | 26 => ⟨S_, .f32⟩
  | 27 => ⟨S1024x8x640, .f32⟩
  | 28 => ⟨S_, .i32⟩
  | 29 => ⟨S1024x8x640, .f32⟩
  | 30 => ⟨S640x640, .f32⟩
  | 31 => ⟨S640, .f32⟩
  | 32 => ⟨S_, .i32⟩
  | 33 => ⟨S8x640, .f32⟩
  | 34 => ⟨S1024x8x640, .f32⟩
  | 35 => ⟨S_, .i32⟩
  | 36 => ⟨S_, .i1⟩
  | 37 => ⟨S_, .i32⟩
  | 38 => ⟨S_, .i32⟩
  | 39 => ⟨S1x8x640, .f32⟩
  | 40 => ⟨S8x640, .f32⟩
  | 41 => ⟨S640x640, .f32⟩
  | 42 => ⟨S8x640, .f32⟩
  | 43 => ⟨S8x640, .f32⟩
  | 44 => ⟨S1x640, .f32⟩
  | 45 => ⟨S8x640, .f32⟩
  | 46 => ⟨S8x640, .f32⟩
  | 47 => ⟨S8x640, .f32⟩
  | 48 => ⟨S1x8x640, .f32⟩
  | 49 => ⟨S_, .i32⟩
  | 50 => ⟨S_, .i32⟩
  | 51 => ⟨S1024x8x640, .f32⟩
  | 52 => ⟨S_, .i32⟩
  | 53 => ⟨S_, .i32⟩
  | 54 => ⟨S8x1024x640, .f32⟩
  | 55 => ⟨S640x3, .f32⟩
  | 56 => ⟨S8x1024x3, .f32⟩
  | 57 => ⟨S1x1x3, .f32⟩
  | 58 => ⟨S8x1024x3, .f32⟩
  | 59 => ⟨S8x1024x3, .f32⟩
  | 60 => ⟨S640x1024, .f32⟩
  | 61 => ⟨S8x1024x1024, .f32⟩
  | 62 => ⟨S1x1x1024, .f32⟩
  | 63 => ⟨S8x1024x1024, .f32⟩
  | 64 => ⟨S8x1024x1024, .f32⟩
  | 65 => ⟨S640x1024, .f32⟩
  | 66 => ⟨S8x1024x1024, .f32⟩
  | 67 => ⟨S1x1x1024, .f32⟩
  | 68 => ⟨S8x1024x1024, .f32⟩
  | 69 => ⟨S8x1024x1024, .f32⟩
  | 70 => ⟨S640x1024, .f32⟩
  | 71 => ⟨S8x1024x1024, .f32⟩
  | 72 => ⟨S1x1x1024, .f32⟩
  | 73 => ⟨S8x1024x1024, .f32⟩
  | 74 => ⟨S8x1024x1024, .f32⟩
  | 75 => ⟨S640x1024, .f32⟩
  | 76 => ⟨S8x1024x1024, .f32⟩
  | 77 => ⟨S1x1x1024, .f32⟩
  | 78 => ⟨S8x1024x1024, .f32⟩
  | 79 => ⟨S8x1024x1024, .f32⟩
  | 80 => ⟨S1x8x640, .f32⟩
  | _ => ⟨S8x1024x5, .i32⟩

abbrev hbmTy (i : Nat) : BufTy := match i / 128 with
  | 0 => hbmTy0_0 i
  | 1 => hbmTy0_1 i
  | _ => ⟨S8x1024x5, .i32⟩

abbrev bufTy : (tb : Table) → Fin (tcTables nBuf tb) → BufTy
  | .hbm, ⟨i, _⟩ => hbmTy i
  | _, _ => ⟨S8x1024x5, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_call0_c : Ref sig .tc := ⟨.hbm, 30, rfl⟩
abbrev main_call0_v0 : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_c_1 : Ref sig .tc := ⟨.hbm, 38, rfl⟩
abbrev main_call0_c_2 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_3 : Ref sig .tc := ⟨.hbm, 46, rfl⟩
abbrev main_call0_v12 : Ref sig .tc := ⟨.hbm, 47, rfl⟩
abbrev main_call0_v13 : Ref sig .tc := ⟨.hbm, 48, rfl⟩
abbrev main_call0_v14 : Ref sig .tc := ⟨.hbm, 49, rfl⟩
abbrev main_call0_cst : Ref sig .tc := ⟨.hbm, 50, rfl⟩
abbrev main_call0_v15 : Ref sig .tc := ⟨.hbm, 51, rfl⟩
abbrev main_v10 : Ref sig .tc := ⟨.hbm, 52, rfl⟩
abbrev main_call1_c : Ref sig .tc := ⟨.hbm, 53, rfl⟩
abbrev main_call1_v0 : Ref sig .tc := ⟨.hbm, 54, rfl⟩
abbrev main_call1_v1 : Ref sig .tc := ⟨.hbm, 55, rfl⟩
abbrev main_call1_c_0 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_c_1 : Ref sig .tc := ⟨.hbm, 61, rfl⟩
abbrev main_call1_c_2 : Ref sig .tc := ⟨.hbm, 62, rfl⟩
abbrev main_call1_v6 : Ref sig .tc := ⟨.hbm, 63, rfl⟩
abbrev main_call1_v7 : Ref sig .tc := ⟨.hbm, 64, rfl⟩
abbrev main_call1_v8 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_c_3 : Ref sig .tc := ⟨.hbm, 69, rfl⟩
abbrev main_call1_v12 : Ref sig .tc := ⟨.hbm, 70, rfl⟩
abbrev main_call1_v13 : Ref sig .tc := ⟨.hbm, 71, rfl⟩
abbrev main_call1_v14 : Ref sig .tc := ⟨.hbm, 72, rfl⟩
abbrev main_call1_cst : Ref sig .tc := ⟨.hbm, 73, rfl⟩
abbrev main_call1_v15 : Ref sig .tc := ⟨.hbm, 74, rfl⟩
abbrev main_v11 : Ref sig .tc := ⟨.hbm, 75, rfl⟩
abbrev main_call2_c : Ref sig .tc := ⟨.hbm, 76, rfl⟩
abbrev main_call2_v0 : Ref sig .tc := ⟨.hbm, 77, rfl⟩
abbrev main_call2_v1 : Ref sig .tc := ⟨.hbm, 78, rfl⟩
abbrev main_call2_c_0 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_call2_v5 : Ref sig .tc := ⟨.hbm, 83, rfl⟩
abbrev main_call2_c_1 : Ref sig .tc := ⟨.hbm, 84, rfl⟩
abbrev main_call2_c_2 : Ref sig .tc := ⟨.hbm, 85, rfl⟩
abbrev main_call2_v6 : Ref sig .tc := ⟨.hbm, 86, rfl⟩
abbrev main_call2_v7 : Ref sig .tc := ⟨.hbm, 87, rfl⟩
abbrev main_call2_v8 : Ref sig .tc := ⟨.hbm, 88, rfl⟩
abbrev main_call2_v9 : Ref sig .tc := ⟨.hbm, 89, rfl⟩
abbrev main_call2_v10 : Ref sig .tc := ⟨.hbm, 90, rfl⟩
abbrev main_call2_v11 : Ref sig .tc := ⟨.hbm, 91, rfl⟩
abbrev main_call2_c_3 : Ref sig .tc := ⟨.hbm, 92, rfl⟩
abbrev main_call2_v12 : Ref sig .tc := ⟨.hbm, 93, rfl⟩
abbrev main_call2_v13 : Ref sig .tc := ⟨.hbm, 94, rfl⟩
abbrev main_call2_v14 : Ref sig .tc := ⟨.hbm, 95, rfl⟩
abbrev main_call2_cst : Ref sig .tc := ⟨.hbm, 96, rfl⟩
abbrev main_call2_v15 : Ref sig .tc := ⟨.hbm, 97, rfl⟩
abbrev main_v12 : Ref sig .tc := ⟨.hbm, 98, rfl⟩
abbrev main_call3_c : Ref sig .tc := ⟨.hbm, 99, rfl⟩
abbrev main_call3_v0 : Ref sig .tc := ⟨.hbm, 100, rfl⟩
abbrev main_call3_v1 : Ref sig .tc := ⟨.hbm, 101, rfl⟩
abbrev main_call3_c_0 : Ref sig .tc := ⟨.hbm, 102, rfl⟩
abbrev main_call3_v2 : Ref sig .tc := ⟨.hbm, 103, rfl⟩
abbrev main_call3_v3 : Ref sig .tc := ⟨.hbm, 104, rfl⟩
abbrev main_call3_v4 : Ref sig .tc := ⟨.hbm, 105, rfl⟩
abbrev main_call3_v5 : Ref sig .tc := ⟨.hbm, 106, rfl⟩
abbrev main_call3_c_1 : Ref sig .tc := ⟨.hbm, 107, rfl⟩
abbrev main_call3_c_2 : Ref sig .tc := ⟨.hbm, 108, rfl⟩
abbrev main_call3_v6 : Ref sig .tc := ⟨.hbm, 109, rfl⟩
abbrev main_call3_v7 : Ref sig .tc := ⟨.hbm, 110, rfl⟩
abbrev main_call3_v8 : Ref sig .tc := ⟨.hbm, 111, rfl⟩
abbrev main_call3_v9 : Ref sig .tc := ⟨.hbm, 112, rfl⟩
abbrev main_call3_v10 : Ref sig .tc := ⟨.hbm, 113, rfl⟩
abbrev main_call3_v11 : Ref sig .tc := ⟨.hbm, 114, rfl⟩
abbrev main_call3_c_3 : Ref sig .tc := ⟨.hbm, 115, rfl⟩
abbrev main_call3_v12 : Ref sig .tc := ⟨.hbm, 116, rfl⟩
abbrev main_call3_v13 : Ref sig .tc := ⟨.hbm, 117, rfl⟩
abbrev main_call3_v14 : Ref sig .tc := ⟨.hbm, 118, rfl⟩
abbrev main_call3_cst : Ref sig .tc := ⟨.hbm, 119, rfl⟩
abbrev main_call3_v15 : Ref sig .tc := ⟨.hbm, 120, rfl⟩
abbrev main_v13 : Ref sig .tc := ⟨.hbm, 121, rfl⟩
abbrev main_call4_c : Ref sig .tc := ⟨.hbm, 122, rfl⟩
abbrev main_call4_v0 : Ref sig .tc := ⟨.hbm, 123, rfl⟩
abbrev main_call4_v1 : Ref sig .tc := ⟨.hbm, 124, rfl⟩
abbrev main_call4_c_0 : Ref sig .tc := ⟨.hbm, 125, rfl⟩
abbrev main_call4_v2 : Ref sig .tc := ⟨.hbm, 126, rfl⟩
abbrev main_call4_v3 : Ref sig .tc := ⟨.hbm, 127, rfl⟩
abbrev main_call4_v4 : Ref sig .tc := ⟨.hbm, 128, rfl⟩
abbrev main_call4_v5 : Ref sig .tc := ⟨.hbm, 129, rfl⟩
abbrev main_call4_c_1 : Ref sig .tc := ⟨.hbm, 130, rfl⟩
abbrev main_call4_c_2 : Ref sig .tc := ⟨.hbm, 131, rfl⟩
abbrev main_call4_v6 : Ref sig .tc := ⟨.hbm, 132, rfl⟩
abbrev main_call4_v7 : Ref sig .tc := ⟨.hbm, 133, rfl⟩
abbrev main_call4_v8 : Ref sig .tc := ⟨.hbm, 134, rfl⟩
abbrev main_call4_v9 : Ref sig .tc := ⟨.hbm, 135, rfl⟩
abbrev main_call4_v10 : Ref sig .tc := ⟨.hbm, 136, rfl⟩
abbrev main_call4_v11 : Ref sig .tc := ⟨.hbm, 137, rfl⟩
abbrev main_call4_c_3 : Ref sig .tc := ⟨.hbm, 138, rfl⟩
abbrev main_call4_v12 : Ref sig .tc := ⟨.hbm, 139, rfl⟩
abbrev main_call4_v13 : Ref sig .tc := ⟨.hbm, 140, rfl⟩
abbrev main_call4_v14 : Ref sig .tc := ⟨.hbm, 141, rfl⟩
abbrev main_call4_cst : Ref sig .tc := ⟨.hbm, 142, rfl⟩
abbrev main_call4_v15 : Ref sig .tc := ⟨.hbm, 143, rfl⟩
abbrev main_v14 : Ref sig .tc := ⟨.hbm, 144, rfl⟩
abbrev main_v15 : Ref sig .tc := ⟨.hbm, 145, rfl⟩
abbrev main_v16 : Ref sig .tc := ⟨.hbm, 146, rfl⟩
abbrev main_v17 : Ref sig .tc := ⟨.hbm, 147, rfl⟩
abbrev main_v18 : Ref sig .tc := ⟨.hbm, 148, rfl⟩
abbrev main_v19 : Ref sig .tc := ⟨.hbm, 149, rfl⟩
abbrev main_v20 : Ref sig .tc := ⟨.hbm, 150, rfl⟩
abbrev main_v21 : Ref sig .tc := ⟨.hbm, 151, rfl⟩
abbrev main_cst : Ref sig .tc := ⟨.hbm, 152, rfl⟩
abbrev main_v22 : Ref sig .tc := ⟨.hbm, 153, rfl⟩
abbrev main_cst_0 : Ref sig .tc := ⟨.hbm, 154, rfl⟩
abbrev main_v23 : Ref sig .tc := ⟨.hbm, 155, rfl⟩
abbrev main_c : Ref sig .tc := ⟨.hbm, 156, rfl⟩
abbrev main_v24_0 : Ref sig .tc := ⟨.hbm, 157, rfl⟩
abbrev main_v24_1 : Ref sig .tc := ⟨.hbm, 158, rfl⟩
abbrev main_v24_2 : Ref sig .tc := ⟨.hbm, 159, rfl⟩
abbrev main_v24_3 : Ref sig .tc := ⟨.hbm, 160, rfl⟩
abbrev main_v24_4 : Ref sig .tc := ⟨.hbm, 161, rfl⟩
abbrev main_v24_5 : Ref sig .tc := ⟨.hbm, 162, rfl⟩
abbrev main_while0c_c_6 : Ref sig .tc := ⟨.hbm, 163, rfl⟩
abbrev main_while0c_v52 : Ref sig .tc := ⟨.hbm, 164, rfl⟩
abbrev main_while0b_call5_c : Ref sig .tc := ⟨.hbm, 165, rfl⟩
abbrev main_while0b_call5_c_0 : Ref sig .tc := ⟨.hbm, 166, rfl⟩
abbrev main_while0b_call5_v0 : Ref sig .tc := ⟨.hbm, 167, rfl⟩
abbrev main_while0b_v52 : Ref sig .tc := ⟨.hbm, 168, rfl⟩
abbrev main_while0b_v53 : Ref sig .tc := ⟨.hbm, 169, rfl⟩
abbrev main_while0b_v54 : Ref sig .tc := ⟨.hbm, 170, rfl⟩
abbrev main_while0b_v55 : Ref sig .tc := ⟨.hbm, 171, rfl⟩
abbrev main_while0b_v56 : Ref sig .tc := ⟨.hbm, 172, rfl⟩
abbrev main_while0b_v57 : Ref sig .tc := ⟨.hbm, 173, rfl⟩
abbrev main_while0b_v58 : Ref sig .tc := ⟨.hbm, 174, rfl⟩
abbrev main_while0b_v59 : Ref sig .tc := ⟨.hbm, 175, rfl⟩
abbrev main_while0b_call6_v0 : Ref sig .tc := ⟨.hbm, 176, rfl⟩
abbrev main_while0b_call6_c : Ref sig .tc := ⟨.hbm, 177, rfl⟩
abbrev main_while0b_call6_c_0 : Ref sig .tc := ⟨.hbm, 178, rfl⟩
abbrev main_while0b_v60 : Ref sig .tc := ⟨.hbm, 179, rfl⟩
abbrev main_while0b_c_6 : Ref sig .tc := ⟨.hbm, 180, rfl⟩
abbrev main_while0b_v61 : Ref sig .tc := ⟨.hbm, 181, rfl⟩
abbrev main_v25 : Ref sig .tc := ⟨.hbm, 182, rfl⟩
abbrev main_v26 : Ref sig .tc := ⟨.hbm, 183, rfl⟩
abbrev main_v27 : Ref sig .tc := ⟨.hbm, 184, rfl⟩
abbrev main_v28 : Ref sig .tc := ⟨.hbm, 185, rfl⟩
abbrev main_v29 : Ref sig .tc := ⟨.hbm, 186, rfl⟩
abbrev main_v30 : Ref sig .tc := ⟨.hbm, 187, rfl⟩
abbrev main_v31 : Ref sig .tc := ⟨.hbm, 188, rfl⟩
abbrev main_v32 : Ref sig .tc := ⟨.hbm, 189, rfl⟩
abbrev main_v33 : Ref sig .tc := ⟨.hbm, 190, rfl⟩
abbrev main_v34 : Ref sig .tc := ⟨.hbm, 191, rfl⟩
abbrev main_v35 : Ref sig .tc := ⟨.hbm, 192, rfl⟩
abbrev main_v36 : Ref sig .tc := ⟨.hbm, 193, rfl⟩
abbrev main_v37 : Ref sig .tc := ⟨.hbm, 194, rfl⟩
abbrev main_v38 : Ref sig .tc := ⟨.hbm, 195, rfl⟩
abbrev main_v39 : Ref sig .tc := ⟨.hbm, 196, rfl⟩
abbrev main_v40 : Ref sig .tc := ⟨.hbm, 197, rfl⟩
abbrev main_v41 : Ref sig .tc := ⟨.hbm, 198, rfl⟩
abbrev main_v42 : Ref sig .tc := ⟨.hbm, 199, rfl⟩
abbrev main_v43 : Ref sig .tc := ⟨.hbm, 200, rfl⟩
abbrev main_v44 : Ref sig .tc := ⟨.hbm, 201, rfl⟩
abbrev main_v45 : Ref sig .tc := ⟨.hbm, 202, rfl⟩
abbrev main_v46 : Ref sig .tc := ⟨.hbm, 203, rfl⟩
abbrev main_v47 : Ref sig .tc := ⟨.hbm, 204, rfl⟩
abbrev main_v48 : Ref sig .tc := ⟨.hbm, 205, rfl⟩
abbrev main_v49 : Ref sig .tc := ⟨.hbm, 206, rfl⟩
abbrev main_v50 : Ref sig .tc := ⟨.hbm, 207, rfl⟩
abbrev main_v51 : Ref sig .tc := ⟨.hbm, 208, rfl⟩

abbrev nD : Nat := 1
abbrev τ : Topo := Topo.v7x

variable {F : FTy → Type} [FloatOps F]

abbrev main_while0_count : Scf.Loop 32 := ⟨0#32, 1024#32, 1#32⟩
-- ==== Proof.KernelRun.lean ====
/-
  The run of the kernel program, with the final contents of every array named.

  The program is four stretches: a few host operations, the scan kernel, a few host operations, the heads kernel. `W4` is
  the contents after the fourth. The theorem below says that every execution ends with exactly these contents in every
  array of the program.
-/
module

public import proofs.«01_k».proof.Proof.Gen.KernelIdeal.Frame

@[expose] public section

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable (m : (ℓ : Loc nD τ sig) → Buf (Elt F) ℓ) (ρ : Dev nD → PrngReg)

local notation "𝕄" => MT nD τ sig Unit (Elt F) ℕ (UR sig nD τ) ℕ

set_option backward.isDefEq.respectTransparency.types false in
/-- Every execution of the kernel program ends, without a fault, with every array that is not a staging buffer at the
    contents `W4`: the launch contents carried through the two host stretches and the two kernels. -/
theorem run_whole : θ_run defs (onTc (τ := τ) (main (F := F))) ⟨m, fun _ => 0, ρ⟩ (fun r =>
      ∀ c : Dev nD, ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by
        rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b))
        = StableHlo.held (c : Thread nD τ) (Pipeline.ucRefs τ sig) (W0 m ρ c) from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => h)

end Cert.KernelIdeal.Whole

end
-- ==== Proof.ScanLoop.lean ====
/-
  The counted loop of the scan kernel.

  The loop runs 1024 trips over an array of 8192 rows of 640. Trip `k` loads rows `8k … 8k+7`, adds the product of the
  carried 8x640 block with the recurrent weights, takes `tanh`, stores the result back to the same rows and carries it on.
  This module states what the array and the carried block hold after any number of trips.
-/
module

public import proofs.«01_k».proof.Proof.Gen.KernelIdeal.Frame
public import Idealize.ShloMosaic.Lib.Pointwise
public import Idealize.ShloMosaic.Lib.WritesUnit
public import Idealize.ShloMosaic.Lib.Pipeline.ValueKit

@[expose] public section

set_option maxRecDepth 16384

noncomputable section

namespace Cert.KernelIdeal.Scan

open Idealize.ShloMosaic Idealize.ShloMosaic.TcCoe Idealize.SL.Sem
open Cert.KernelIdeal Cert.KernelIdeal.Gen

variable {F : FTy → Type} [FloatOps F]

/-- Rows `8k … 8k+7` of an 8192x640 array, as an 8x640 block. -/
def rowsOf (p : Vec F S8192x640 .f32) (k : ℕ) : Vec F S8x640 .f32 :=
  fun j => p (ix2 ⟨(8 * k + (j 0).val) % 8192, Nat.mod_lt _ (by decide)⟩ (j 1))

/-- The carried block before trip `k`: zero, then `tanh (rows of trip k + block · weightsᵀ)`. -/
def carried (w : Vec F S640x640 .f32) (p : Vec F S8192x640 .f32) : ℕ → Vec F S8x640 .f32
  | 0 => k0_pay2
  | k + 1 => k0_pay3 w (carried w p k) (rowsOf p k)

/-- The array after `k` trips: the rows of a trip already run hold the block that trip produced, the rest is as at entry. -/
def rowsAfter (w : Vec F S640x640 .f32) (p : Vec F S8192x640 .f32) (k : ℕ) : Vec F S8192x640 .f32 :=
  fun y => if (y 0).val < 8 * k then carried w p ((y 0).val / 8 + 1) (ix2 ⟨(y 0).val % 8, Nat.mod_lt _ (by decide)⟩ (y 1))
    else p y

section Loop

variable (𝒱 : Variants) (c : Dev nD) (bd : Option 𝒱.V)
  (arg0 : Memref sig .tc .vmem S8192x5 .i32) (harg0 : arg0.IsWhole)
  (arg1 : Memref sig .tc .vmem S3x128 .f32) (harg1 : arg1.IsWhole)
  (arg2 : Memref sig .tc .vmem S1025x128 .f32) (harg2 : arg2.IsWhole)
  (arg3 : Memref sig .tc .vmem S1025x128 .f32) (harg3 : arg3.IsWhole)
  (arg4 : Memref sig .tc .vmem S1025x128 .f32) (harg4 : arg4.IsWhole)
  (arg5 : Memref sig .tc .vmem S1025x128 .f32) (harg5 : arg5.IsWhole)
  (arg6 : Memref sig .tc .vmem S640x640 .f32) (harg6 : arg6.IsWhole)
  (arg7 : Memref sig .tc .vmem S640x640 .f32) (harg7 : arg7.IsWhole)
  (arg8 : Memref sig .tc .vmem S1x640 .f32) (harg8 : arg8.IsWhole)
  (arg9 : Memref sig .tc .vmem S1x640 .f32) (harg9 : arg9.IsWhole)
  (arg10 : Memref sig .tc .vmem S8192x640 .f32) (harg10 : arg10.IsWhole)
  (w : Vec F S640x640 .f32)

/-- What trip `k` loads from the array. -/
abbrev tripLoad (k : Fin k0_t1_loop.trips) (f : BufTy.Contents (Elt F) arg10.view.ty) : Vec F S8x640 .f32 :=
  View.readAt (Elt F) arg10.view (Rect.unit (s := S8192x640) (k0_off1 k) S8x640.size (k0_off1_inb k)).toLoadRect f

/-- Trip `k` carries on the `tanh` block of what it was handed and of the rows it loads. -/
theorem trip_result (k : Fin k0_t1_loop.trips) (acc : FVec F S8x640 .f32) (f : BufTy.Contents (Elt F) arg10.view.ty) :
    tripR_k0_t1 (F := F) 𝒱 c bd arg0 harg0 arg1 harg1 arg2 harg2 arg3 harg3 arg4 harg4 arg5 harg5 arg6 harg6 arg7 harg7
      arg8 harg8 arg9 harg9 arg10 harg10 w k acc f = k0_pay3 w acc (tripLoad arg10 k f) := by
  unfold tripR_k0_t1 trip_k0_t1
  rfl

/-- Trip `k` stores that same block to its rows, and nothing else. -/
theorem trip_stores (k : Fin k0_t1_loop.trips) (acc : FVec F S8x640 .f32) (f : BufTy.Contents (Elt F) arg10.view.ty) :
    tripL_k0_t1 (F := F) 𝒱 c bd arg0 harg0 arg1 harg1 arg2 harg2 arg3 harg3 arg4 harg4 arg5 harg5 arg6 harg6 arg7 harg7
      arg8 harg8 arg9 harg9 arg10 harg10 w k acc f
      = [⟨Rect.unit (s := S8192x640) (k0_off1 k) S8x640.size (k0_off1_inb k), k0_pay3 w acc (tripLoad arg10 k f)⟩] := by
  unfold tripL_k0_t1 trip_k0_t1
  rfl

/-- The rows trip `k` loads, in terms of the array read as a whole. -/
theorem tripLoad_eq (k : Fin k0_t1_loop.trips) (f : BufTy.Contents (Elt F) arg10.view.ty) (q : Vec F S8192x640 .f32)
    (hq : arg10.view.read (Elt F) f = q) : tripLoad arg10 k f = rowsOf q k.val := by
  have hk : k.val < 1024 := Nat.lt_of_lt_of_le k.isLt k0_t1_abs.2.1
  subst hq
  funext j
  unfold tripLoad rowsOf
  rw [View.readAt_eq_ld]
  have e := k0_off1_eq k
  have h0 : (j 0).val < 8 := (j 0).isLt
  refine congrArg (arg10.view.read (Elt F) f) (funext fun a => Fin.ext ?_)
  match a with
  | ⟨0, _⟩ =>
    show k0_off1 k 0 + 1 * (j 0).val = (8 * k.val + (j 0).val) % 8192
    rw [e]
    show 8 * k.val + 1 * (j 0).val = _
    omega
  | ⟨1, _⟩ =>
    show k0_off1 k 1 + 1 * (j 1).val = (j 1).val
    rw [e]
    show 0 + 1 * (j 1).val = _
    omega

variable (g : BufTy.Contents (Elt F) arg10.view.ty) (p : Vec F S8192x640 .f32)

/-- The carried block and the array after `k` trips, from an array that reads as `p`. -/
theorem after_trips (hp : arg10.view.read (Elt F) g = p) : ∀ k : ℕ, k ≤ k0_t1_loop.trips →
    (st_k0_t1 (F := F) 𝒱 c bd arg0 harg0 arg1 harg1 arg2 harg2 arg3 harg3 arg4 harg4 arg5 harg5 arg6 harg6 arg7 harg7
      arg8 harg8 arg9 harg9 arg10 harg10 w g k0_pay2 k).1 = carried w p k
    ∧ arg10.view.read (Elt F) (arg10.view.writes (Elt F) g
        (st_k0_t1 (F := F) 𝒱 c bd arg0 harg0 arg1 harg1 arg2 harg2 arg3 harg3 arg4 harg4 arg5 harg5 arg6 harg6 arg7 harg7
          arg8 harg8 arg9 harg9 arg10 harg10 w g k0_pay2 k).2) = rowsAfter w p k
  | 0, _ => by
    refine ⟨rfl, ?_⟩
    show arg10.view.read (Elt F) g = _
    rw [hp]
    funext y
    unfold rowsAfter
    rw [if_neg (by omega)]
  | k + 1, h => by
    obtain ⟨h1, h2⟩ := after_trips hp k (by omega)
    have hk : k < 1024 := Nat.lt_of_lt_of_le h k0_t1_abs.2.1
    have hs := st_k0_t1_succ (F := F) 𝒱 c bd arg0 harg0 arg1 harg1 arg2 harg2 arg3 harg3 arg4 harg4 arg5 harg5 arg6 harg6
      arg7 harg7 arg8 harg8 arg9 harg9 arg10 harg10 w g k0_pay2 ⟨k, h⟩
    have hl : tripLoad arg10 ⟨k, h⟩ (arg10.view.writes (Elt F) g
        (st_k0_t1 (F := F) 𝒱 c bd arg0 harg0 arg1 harg1 arg2 harg2 arg3 harg3 arg4 harg4 arg5 harg5 arg6 harg6 arg7 harg7
          arg8 harg8 arg9 harg9 arg10 harg10 w g k0_pay2 k).2) = rowsOf p k := by
      rw [tripLoad_eq arg10 ⟨k, h⟩ _ _ h2]
      funext j
      have h0 : (j 0).val < 8 := (j 0).isLt
      unfold rowsOf rowsAfter
      rw [if_neg]
      show ¬ (8 * k + (j 0).val) % 8192 < 8 * k
      omega
    rw [trip_result, trip_stores] at hs
    simp only [List.cons_append, List.nil_append] at hs
    rw [hl, h1] at hs
    rw [hs]
    refine ⟨rfl, ?_⟩
    funext y
    have hy0 : (y 0).val < 8192 := (y 0).isLt
    by_cases hy : 8 * k ≤ (y 0).val ∧ (y 0).val < 8 * k + 8
    · rw [View.read_writes_cons_rows_of_mem arg10.view g (k0_off1_inb ⟨k, h⟩) _ _ y
        (ix2 ⟨(y 0).val % 8, Nat.mod_lt _ (by decide)⟩ (y 1)) (k0_off1_eq ⟨k, h⟩)
        (by show (y 0).val = 8 * k + (y 0).val % 8; omega) rfl]
      unfold rowsAfter
      rw [if_pos (by omega), show (y 0).val / 8 + 1 = k + 1 by omega]
      rfl
    · rw [View.read_writes_cons_rows_of_not_mem (W := 8) arg10.view g (k0_off1_inb ⟨k, h⟩) _ _ y (k0_off1_eq ⟨k, h⟩) rfl
        (by show (y 0).val < 8 * k ∨ 8 * k + 8 ≤ (y 0).val; omega), h2]
      unfold rowsAfter
      by_cases hlt : (y 0).val < 8 * k
      · rw [if_pos hlt, if_pos (by omega)]
      · rw [if_neg hlt, if_neg (by omega)]

end Loop

end Cert.KernelIdeal.Scan

end
-- ==== Proof.ScanValue.lean ====
/-
  What the scan kernel leaves in its output array.

  The kernel first fills the whole array with the projected inputs (`preactivation`), then runs the 1024 trips of the loop
  over it. So the array it leaves is `rowsAfter` of that projection after 1024 trips.
-/
module

public import proofs.«01_k».proof.Proof.ScanLoop

@[expose] public section

set_option maxRecDepth 16384

noncomputable section

namespace Cert.KernelIdeal.Scan

open Idealize.ShloMosaic Idealize.ShloMosaic.TcCoe Idealize.SL.Sem
open Cert.KernelIdeal Cert.KernelIdeal.Gen

variable {F : FTy → Type} [FloatOps F]

/-- The first three rows of a table of 1025 rows. -/
def topRows (e : Vec F S1025x128 .f32) : Vec F S3x128 .f32 :=
  fun j => e (ix2 ⟨(j 0).val % 1025, Nat.mod_lt _ (by decide)⟩ (j 1))

/-- Columns `o … o+127` of the input weights. -/
def columnsAt (w : Vec F S640x640 .f32) (o : ℕ) : Vec F S640x128 .f32 :=
  fun j => w (ix2 (j 0) ⟨(o + (j 1).val) % 640, Nat.mod_lt _ (by decide)⟩)

/-- The projected inputs, before the loop: the one-hot rows of the digits times the 40x640 table of projected embeddings,
    plus the sum of the two biases. -/
def preactivation (x : Vec F S8192x5 .i32) (e0 : Vec F S3x128 .f32) (e1 e2 e3 e4 : Vec F S1025x128 .f32)
    (w : Vec F S640x640 .f32) (b b' : Vec F S1x640 .f32) : Vec F S8192x640 .f32 :=
  k0_pay1 (k0_pay9 (k0_pay4 e0 (columnsAt w 0)) (k0_pay5 (topRows e1) (columnsAt w 128))
      (k0_pay6 (topRows e2) (columnsAt w 256)) (k0_pay7 (topRows e3) (columnsAt w 384))
      (k0_pay8 (topRows e4) (columnsAt w 512)))
    (k0_pay11 x) (k0_pay12 x) b b'

theorem zero_offsets : (![0, 0] : Fin 2 → Nat) = fun _ => 0 := funext fun a => by fin_cases a <;> rfl

/-- A load of three rows from row 0 reads the first three rows. -/
theorem ld_topRows (e : Vec F S1025x128 .f32) (inb) :
    View.ld (Val := Elt F) (e' := .f32) e (Rect.unit (s := S1025x128) ![0, 0] ![3, 128] inb) = topRows e := by
  funext x
  refine View.ld_unit_apply_of e _ _ inb x _ fun a => ?_
  have h0 : (x 0).val < 3 := (x 0).isLt
  fin_cases a
  · exact (Nat.mod_eq_of_lt (by omega)).trans (Nat.zero_add _).symm
  · exact (Nat.zero_add _).symm

/-- A load of 128 columns from column `o` reads those columns. -/
theorem ld_columnsAt (w : Vec F S640x640 .f32) (o : ℕ) (ho : o + 128 ≤ 640) (inb) :
    View.ld (Val := Elt F) (e' := .f32) w (Rect.unit (s := S640x640) ![0, o] ![640, 128] inb) = columnsAt w o := by
  funext x
  refine View.ld_unit_apply_of w _ _ inb x _ fun a => ?_
  have h1 : (x 1).val < 128 := (x 1).isLt
  fin_cases a
  · exact (Nat.zero_add _).symm
  · exact Nat.mod_eq_of_lt (by omega)

theorem trips_eq : Scf.trips 0#32 (Scalar.addi 0#32 1024#32) 1#32 = 1024 := by decide

/-- The body leaves in the output buffer the projected inputs with all 1024 trips of the loop run over them. -/
theorem out_eq (c : Dev nD)
    (arg0 : Memref sig .tc .vmem S8192x5 .i32) (harg0 : arg0.IsWhole)
    (arg1 : Memref sig .tc .vmem S3x128 .f32) (harg1 : arg1.IsWhole)
    (arg2 : Memref sig .tc .vmem S1025x128 .f32) (harg2 : arg2.IsWhole)
    (arg3 : Memref sig .tc .vmem S1025x128 .f32) (harg3 : arg3.IsWhole)
    (arg4 : Memref sig .tc .vmem S1025x128 .f32) (harg4 : arg4.IsWhole)
    (arg5 : Memref sig .tc .vmem S1025x128 .f32) (harg5 : arg5.IsWhole)
    (arg6 : Memref sig .tc .vmem S640x640 .f32) (harg6 : arg6.IsWhole)
    (arg7 : Memref sig .tc .vmem S640x640 .f32) (harg7 : arg7.IsWhole)
    (arg8 : Memref sig .tc .vmem S1x640 .f32) (harg8 : arg8.IsWhole)
    (arg9 : Memref sig .tc .vmem S1x640 .f32) (harg9 : arg9.IsWhole)
    (arg10 : Memref sig .tc .vmem S8192x640 .f32) (harg10 : arg10.IsWhole)
    (x0 : Vec F S8192x5 .i32) (x1 : Vec F S3x128 .f32) (x2 x3 x4 x5 : Vec F S1025x128 .f32)
    (x6 x7 : Vec F S640x640 .f32) (x8 x9 : Vec F S1x640 .f32) :
    out0_A_10 c arg0 harg0 arg1 harg1 arg2 harg2 arg3 harg3 arg4 harg4 arg5 harg5 arg6 harg6 arg7 harg7 arg8 harg8 arg9 harg9
        arg10 harg10 x0 x1 x2 x3 x4 x5 x6 x7 x8 x9
      = rowsAfter x7 (preactivation x0 x1 x2 x3 x4 x5 x6 x8 x9) 1024 := by
  unfold out0_A_10
  rw [View.read_writes_eq_canon VO0_10 _ _ (cover0_A_10 c arg0 harg0 arg1 harg1 arg2 harg2 arg3 harg3 arg4 harg4 arg5 harg5
      arg6 harg6 arg7 harg7 arg8 harg8 arg9 harg9 arg10 harg10 x0 x1 x2 x3 x4 x5 x6 x7 x8 x9),
    ← View.read_writes_eq_canon arg10.view arg10.view.junk _ (cover0_A_10 c arg0 harg0 arg1 harg1 arg2 harg2 arg3 harg3
      arg4 harg4 arg5 harg5 arg6 harg6 arg7 harg7 arg8 harg8 arg9 harg9 arg10 harg10 x0 x1 x2 x3 x4 x5 x6 x7 x8 x9)]
  unfold kernelRun0_A
  dsimp only
  sl_unfold_words
  simp only [View.readAt_eq_ld, harg0.read_unread, harg1.read_unread, harg2.read_unread, harg3.read_unread, harg4.read_unread,
    harg5.read_unread, harg6.read_unread, harg7.read_unread, harg8.read_unread, harg9.read_unread]
  rw [View.writes_append, trips_eq, ld_topRows, ld_topRows, ld_topRows, ld_topRows, ld_columnsAt _ 0 (by omega),
    ld_columnsAt _ 128 (by omega), ld_columnsAt _ 256 (by omega), ld_columnsAt _ 384 (by omega), ld_columnsAt _ 512 (by omega),
    View.ld_unit_zero (S := S3x128) zero_offsets, View.ld_unit_zero (S := S8192x5) zero_offsets,
    View.ld_unit_zero (S := S1x640) zero_offsets, View.ld_unit_zero (S := S1x640) zero_offsets,
    View.ld_unit_zero (S := S640x640) zero_offsets]
  refine (after_trips Variants.none c none arg0 harg0 arg1 harg1 arg2 harg2 arg3 harg3 arg4 harg4 arg5 harg5 arg6 harg6 arg7 harg7
    arg8 harg8 arg9 harg9 arg10 harg10 x7 _ (preactivation x0 x1 x2 x3 x4 x5 x6 x8 x9) ?_ 1024 (le_of_eq trips_eq.symm)).2
  rw [View.read_writes_eq_canon _ _ _ fun y => ⟨_, List.mem_singleton.mpr rfl, ?_⟩]
  · exact View.canon_cons_unit_zero (S := S8192x640) zero_offsets _ _ _
  · rw [Rect.mem_set_unit]
    intro a
    have h := (y a).isLt
    fin_cases a
    · exact ⟨Nat.zero_le _, h.trans_eq (Nat.zero_add _).symm⟩
    · exact ⟨Nat.zero_le _, h.trans_eq (Nat.zero_add _).symm⟩

/-- Every window's block index at the one point. -/
theorem block_index : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0] :=
  (by decide +kernel : ∀ t : Fin grid0.N, _)

variable (V : (c : Dev nD) → (b : Ref sig .tc) → Buf (Elt F) ((c : Thread nD τ).loc b))

theorem block0 (c : Dev nD) : iblk0 V c 0 t0_0 = V c main_v1 := by blk_ext! [iblk0, block_index t0_0]
theorem block1 (c : Dev nD) : iblk0 V c 1 t0_0 = V c main_arg1 := by blk_ext! [iblk0, block_index t0_0]
theorem block2 (c : Dev nD) : iblk0 V c 2 t0_0 = V c main_arg2 := by blk_ext! [iblk0, block_index t0_0]
theorem block3 (c : Dev nD) : iblk0 V c 3 t0_0 = V c main_arg3 := by blk_ext! [iblk0, block_index t0_0]
theorem block4 (c : Dev nD) : iblk0 V c 4 t0_0 = V c main_arg4 := by blk_ext! [iblk0, block_index t0_0]
theorem block5 (c : Dev nD) : iblk0 V c 5 t0_0 = V c main_arg5 := by blk_ext! [iblk0, block_index t0_0]
theorem block6 (c : Dev nD) : iblk0 V c 6 t0_0 = V c main_arg6 := by blk_ext! [iblk0, block_index t0_0]
theorem block7 (c : Dev nD) : iblk0 V c 7 t0_0 = V c main_arg7 := by blk_ext! [iblk0, block_index t0_0]
theorem block8 (c : Dev nD) : iblk0 V c 8 t0_0 = V c main_v2 := by blk_ext! [iblk0, block_index t0_0]
theorem block9 (c : Dev nD) : iblk0 V c 9 t0_0 = V c main_v3 := by blk_ext! [iblk0, block_index t0_0]

/-- The scan kernel's output array, whatever the arrays hold when the kernel starts. -/
theorem array_eq (c : Dev nD) : (dat0 V c).arrAt 10 cfg0.N
    = rowsAfter (V c main_arg7) (preactivation (V c main_v1) (V c main_arg1) (V c main_arg2) (V c main_arg3) (V c main_arg4)
        (V c main_arg5) (V c main_arg6) (V c main_v2) (V c main_v3)) 1024 := by
  refine (dat0 V c).arrAt_eq_of_after_last 10 t0_0 (by decide +kernel) _ fun j => ?_
  blk_simp
  rw [after0_10]
  unfold outsAt0
  rw [out_eq, block0, block1, block2, block3, block4, block5, block6, block7, block8, block9]

end Cert.KernelIdeal.Scan

end
-- ==== Proof.Lookup.lean ====
/-
  The reference's table lookup.

  `jnp.take` wraps a negative index by adding the table's length, gathers rows, and replaces a row whose index is still out of
  range by a fill value. For an index that is 0, 1 or 2 none of that shows: the lookup is the table's row of that number.
-/
module

public import proofs.«01_k».proof.Proof.Gen.ReferenceIdeal.Run
public import Idealize.ShloMosaic.Lib.Pointwise
public import Idealize.ShloMosaic.Lib.DynamicIndex

@[expose] public section

set_option maxRecDepth 16384

noncomputable section

namespace Cert.ReferenceIdeal.Lookup

open Idealize.ShloMosaic Idealize.ShloMosaic.TcCoe Idealize.SL.Sem Idealize.ShloMosaic.StableHlo
open Cert.ReferenceIdeal Cert.ReferenceIdeal.Gen

variable {F : FTy → Type} [FloatOps F]

/-- The gather of whole rows of a table of `N` rows of 128, by an array of row numbers. -/
abbrev rowDims (N : ℕ) (wf : GatherDims.WF ⟨2, ![N, 128]⟩ S8x1024x1 S8x1024x128 [2] [0] [] [0] [] 2 ![1, 128]) :
    GatherDims ⟨2, ![N, 128]⟩ S8x1024x1 S8x1024x128 where
  offsetDims := [2]
  collapsedSliceDims := [0]
  operandBatchingDims := []
  startIndicesBatchingDims := []
  startIndexMap := [0]
  indexVectorDim := 2
  sliceSizes := ![1, 128]
  wf := wf

/-- That gather at `(b, t, c)`: column `c` of the row whose number is the start index `(b, t)`, clamped into the table. -/
theorem rowDims_apply {α : Type} {N : ℕ} (hN : 0 < N) (wf) (e : (⟨2, ![N, 128]⟩ : Shape).Idx → α) (i : IVec S8x1024x1 32)
    (y : S8x1024x128.Idx) :
    Host.gather (rowDims N wf) e i y
      = e (ix2 ⟨min (i (ix3 (y 0) (y 1) 0)).toInt.toNat (N - 1), by omega⟩ (y 2)) := by
  unfold Host.gather
  congr 1
  funext a
  refine Fin.ext ?_
  show (rowDims N wf).start y i a + (rowDims N wf).batchCoord y a + (rowDims N wf).offCoord y a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ (rowDims N wf).startIndexMap from List.mem_singleton.mpr rfl)]
    have hsi : (rowDims N wf).siIdx y ⟨List.idxOf (0 : Fin 2) (rowDims N wf).startIndexMap,
        List.idxOf_lt_length_iff.2 (List.mem_singleton.mpr rfl)⟩ = ix3 (y 0) (y 1) 0 := by
      funext b
      refine Fin.ext ?_
      match b with
      | ⟨0, _⟩ => rfl
      | ⟨1, _⟩ => rfl
      | ⟨2, _⟩ => rfl
    rw [hsi]
    rfl
  · unfold GatherDims.start
    rw [dif_neg (show ¬ (1 : Fin 2) ∈ (rowDims N wf).startIndexMap from fun h => absurd (List.mem_singleton.mp h) (by decide : ¬ (1 : Fin 2) = 0))]
    unfold GatherDims.offCoord
    rw [dif_pos ((GatherDims.mem_sKept _ _).mpr ⟨fun h => absurd (List.mem_singleton.mp h) (by decide : ¬ (1 : Fin 2) = 0), List.not_mem_nil⟩)]
    show 0 + 0 + (y 2).val = (y 2).val
    omega

/-- The row numbers after wrapping negative ones by `n`. -/
def wrapped (n : BitVec 32) (x : IVec S8x1024 32) : IVec S8x1024x1 32 :=
  broadcastInDim S8x1024x1 ![0, 1] bcast_S8x1024_S8x1024x1_0_1
    (select (cmpi .slt x (broadcastInDim S8x1024 ![] bcast_S_S8x1024 (constantI S_ 32 0#32)))
      (addi x (broadcastInDim S8x1024 ![] bcast_S_S8x1024 (constantI S_ 32 n))) x)

/-- Whether a row number lies between 0 and `n`. -/
def inRange (n : BitVec 32) (i : IVec S8x1024x1 32) : IVec S8x1024 1 :=
  Host.reduce IntOp.andi
    (andi (cmpi .sge i (broadcastInDim S8x1024x1 ![] bcast_S_S8x1024x1 (constantI S_ 32 0#32)))
      (cmpi .sle i (broadcastInDim S8x1024x1 ![0, 1, 2] bcast_S1x1x1_S8x1024x1_0_1_2
        (broadcastInDim S1x1x1 ![2] bcast_S1_S1x1x1_2 (constantI S1 32 n)))))
    (constantI S_ 1 1#1) reducesTo_S8x1024x1_S8x1024_d2 h_S_

/-- The gathered rows where the row number is in range, the fill value elsewhere. -/
def filled (ok : IVec S8x1024 1) (g : FVec F S8x1024x128 .f32) : FVec F S8x1024x128 .f32 :=
  select (broadcastInDim S8x1024x128 ![0, 1] bcast_S8x1024_S8x1024x128_0_1 ok) g
    (broadcastInDim S8x1024x128 ![] bcast_S_S8x1024x128 (constant S_ .f32 0x7FC00000#32))

/-- The lookup in the table of 3 rows. -/
def take3 (e : FVec F S3x128 .f32) (x : IVec S8x1024 32) : FVec F S8x1024x128 .f32 :=
  filled (inRange 2#32 (wrapped 3#32 x)) (Host.gather gather_S3x128_S8x1024x1_S8x1024x128_2_0_n_n_0_2_1128 e (wrapped 3#32 x))

/-- The lookup in a table of 1025 rows. -/
def take1025 (e : FVec F S1025x128 .f32) (x : IVec S8x1024 32) : FVec F S8x1024x128 .f32 :=
  filled (inRange 1024#32 (wrapped 1025#32 x))
    (Host.gather gather_S1025x128_S8x1024x1_S8x1024x128_2_0_n_n_0_2_1128 e (wrapped 1025#32 x))

/-- A nonnegative row number is not wrapped. -/
theorem wrapped_apply (n : BitVec 32) (x : IVec S8x1024 32) (b : Fin 8) (t : Fin 1024) (h : 0 ≤ (x (ix2 b t)).toInt) :
    wrapped n x (ix3 b t 0) = x (ix2 b t) := by
  unfold wrapped
  have hs := select_slt_zero_of_nonneg x (addi x (constantI S8x1024 32 n)) x (ix2 b t) h
  pointwise
  pointwise at hs
  exact hs

/-- A row number between 0 and `n` is in range. -/
theorem inRange_apply (n : BitVec 32) (i : IVec S8x1024x1 32) (b : Fin 8) (t : Fin 1024) (h0 : 0 ≤ (i (ix3 b t 0)).toInt)
    (h1 : (i (ix3 b t 0)).toInt ≤ n.toInt) : inRange n i (ix2 b t) = 1#1 := by
  unfold inRange
  pointwise
  have e : ∀ k : Fin 1, IntOp.andi (IntOp.cmpi .sge (i (ix3 b t k)) 0#32) (IntOp.cmpi .sle (i (ix3 b t k)) n) = 1#1 := fun k => by
    obtain rfl : k = 0 := Subsingleton.elim _ _
    have g0 : (0#32).sle (i (ix3 b t 0)) = true := by simpa [BitVec.sle] using h0
    have g1 : (i (ix3 b t 0)).sle n = true := by simpa [BitVec.sle] using h1
    show BitVec.ofBool ((0#32).sle (i (ix3 b t 0))) &&& BitVec.ofBool ((i (ix3 b t 0)).sle n) = 1#1
    rw [g0, g1]
    rfl
  simp only [e]
  rfl

/-- The fill value does not show at an index in range. -/
theorem filled_apply (ok : IVec S8x1024 1) (g : FVec F S8x1024x128 .f32) (b : Fin 8) (t : Fin 1024) (c : Fin 128)
    (h : ok (ix2 b t) = 1#1) : filled ok g (ix3 b t c) = g (ix3 b t c) := by
  unfold filled
  pointwise
  exact if_pos h

/-- The lookup in the table of 3 rows, of a row number 0, 1 or 2. -/
theorem take3_apply (e : FVec F S3x128 .f32) (x : IVec S8x1024 32) (b : Fin 8) (t : Fin 1024) (c : Fin 128)
    (h0 : 0 ≤ (x (ix2 b t)).toInt) (h1 : (x (ix2 b t)).toInt < 3) :
    take3 e x (ix3 b t c) = e (ix2 ⟨(x (ix2 b t)).toInt.toNat, by omega⟩ c) := by
  have hw := wrapped_apply 3#32 x b t h0
  unfold take3
  rw [filled_apply _ _ b t c (inRange_apply _ _ b t (by rw [hw]; exact h0) (by rw [hw]; show _ ≤ (2 : ℤ); omega))]
  refine (rowDims_apply (by decide) gather_S3x128_S8x1024x1_S8x1024x128_2_0_n_n_0_2_1128_wf e _ (ix3 b t c)).trans ?_
  refine congrArg e (congrArg₂ ix2 (Fin.ext ?_) rfl)
  show min (wrapped 3#32 x (ix3 b t 0)).toInt.toNat (3 - 1) = (x (ix2 b t)).toInt.toNat
  rw [hw]
  omega

/-- The lookup in a table of 1025 rows, of a row number 0, 1 or 2. -/
theorem take1025_apply (e : FVec F S1025x128 .f32) (x : IVec S8x1024 32) (b : Fin 8) (t : Fin 1024) (c : Fin 128)
    (h0 : 0 ≤ (x (ix2 b t)).toInt) (h1 : (x (ix2 b t)).toInt < 3) :
    take1025 e x (ix3 b t c) = e (ix2 ⟨(x (ix2 b t)).toInt.toNat, by omega⟩ c) := by
  have hw := wrapped_apply 1025#32 x b t h0
  unfold take1025
  rw [filled_apply _ _ b t c (inRange_apply _ _ b t (by rw [hw]; exact h0) (by rw [hw]; show _ ≤ (1024 : ℤ); omega))]
  refine (rowDims_apply (by decide) gather_S1025x128_S8x1024x1_S8x1024x128_2_0_n_n_0_2_1128_wf e _ (ix3 b t c)).trans ?_
  refine congrArg e (congrArg₂ ix2 (Fin.ext ?_) rfl)
  show min (wrapped 1025#32 x (ix3 b t 0)).toInt.toNat (1025 - 1) = (x (ix2 b t)).toInt.toNat
  rw [hw]
  omega

end Cert.ReferenceIdeal.Lookup

end
-- ==== Proof.RefEntry.lean ====
/-
  What the reference hands its loop: the input projection, the weights, the bias, and two arrays of zeros.
-/
module

public import proofs.«01_k».proof.Proof.Lookup

@[expose] public section

set_option maxRecDepth 16384

noncomputable section

namespace Cert.ReferenceIdeal.Entry

open Idealize.ShloMosaic Idealize.ShloMosaic.TcCoe Idealize.SL.Sem Idealize.ShloMosaic.StableHlo
open Cert.ReferenceIdeal Cert.ReferenceIdeal.Gen Cert.ReferenceIdeal.Value Cert.ReferenceIdeal.Lookup

variable {F : FTy → Type} [FloatOps F]

/-- The five looked-up embeddings side by side. -/
def embeddings (x : IVec S8x1024x5 32) (e0 : FVec F S3x128 .f32) (e1 e2 e3 e4 : FVec F S1025x128 .f32) : FVec F S8x1024x640 .f32 :=
  concatenate S8x1024x640 2
    [⟨S8x1024x128, take3 e0 (shapeCast S8x1024 (extractStridedSlice S8x1024x1 ![0, 0, 0] x slices_S8x1024x5_S8x1024x1_0_0_0) shapeCasts_S8x1024x1_S8x1024)⟩,
     ⟨S8x1024x128, take1025 e1 (shapeCast S8x1024 (extractStridedSlice S8x1024x1 ![0, 0, 1] x slices_S8x1024x5_S8x1024x1_0_0_1) shapeCasts_S8x1024x1_S8x1024)⟩,
     ⟨S8x1024x128, take1025 e2 (shapeCast S8x1024 (extractStridedSlice S8x1024x1 ![0, 0, 2] x slices_S8x1024x5_S8x1024x1_0_0_2) shapeCasts_S8x1024x1_S8x1024)⟩,
     ⟨S8x1024x128, take1025 e3 (shapeCast S8x1024 (extractStridedSlice S8x1024x1 ![0, 0, 3] x slices_S8x1024x5_S8x1024x1_0_0_3) shapeCasts_S8x1024x1_S8x1024)⟩,
     ⟨S8x1024x128, take1025 e4 (shapeCast S8x1024 (extractStridedSlice S8x1024x1 ![0, 0, 4] x slices_S8x1024x5_S8x1024x1_0_0_4) shapeCasts_S8x1024x1_S8x1024)⟩]
    concatenates_S8x1024x128_S8x1024x128_S8x1024x128_S8x1024x128_S8x1024x128_S8x1024x640_d2

/-- The input projection: the embeddings, time first, times the transposed input weights, plus the input bias. -/
def projection (emb : FVec F S8x1024x640 .f32) (w : FVec F S640x640 .f32) (b : FVec F S640 .f32) : FVec F S1024x8x640 .f32 :=
  addf (Host.dotGeneral dot_S1024x8x640_S640x640_S1024x8x640_2_0_01_1_n_n none
      (transpose S1024x8x640 [1, 0, 2] emb transposes_S8x1024x640_S1024x8x640_1_0_2)
      (transpose S640x640 [1, 0] w transposes_S640x640_S640x640_1_0))
    (broadcastInDim S1024x8x640 ![0, 1, 2] bcast_S1x1x640_S1024x8x640_0_1_2 (broadcastInDim S1x1x640 ![2] bcast_S640_S1x1x640_2 b))

/-- A block of zeros. -/
def zeroBlock : FVec F S8x640 .f32 := broadcastInDim S8x640 ![] bcast_S_S8x640 (constant S_ .f32 0x00000000#32)

/-- A stretch leaves a buffer it does not write. -/
theorem keep {ops : List (HloOp τ sig (Elt F))} {W : List (Ref sig .tc)}
    (hw : ops.Forall fun op => op.writes ⊆ (W.map (Proc.devRef (τ := τ) .tc)).toFinset) (X : Valuation τ sig (Elt F)) (b : Ref sig .tc)
    (hb : b ∉ W) : after ops X (Proc.devRef .tc b) = X (Proc.devRef .tc b) := by
  refine after_of_forall_not_mem ops X fun op hop hmem => hb ?_
  have h1 := List.forall_iff_forall_mem.mp hw op hop hmem
  obtain ⟨a, ha, hab⟩ := List.mem_map.mp (List.mem_toFinset.mp h1)
  by_cases e : a = b
  · exact e ▸ ha
  · exact absurd hab (devRef_ne_of_ne e)

section Stretches

variable (X : Valuation τ sig (Elt F))

set_option maxHeartbeats 1000000 in
/-- The first lookup. -/
theorem look0 : after hostOps0_1 X (Proc.devRef .tc main_v10) = take3 (X (Proc.devRef .tc main_arg1)) (X (Proc.devRef .tc main_v1)) := by
  unfold take3 filled inRange wrapped
  after_reads_simp
  rfl

set_option maxHeartbeats 1000000 in
/-- The second lookup. -/
theorem look1 : after hostOps0_2 X (Proc.devRef .tc main_v11) = take1025 (X (Proc.devRef .tc main_arg2)) (X (Proc.devRef .tc main_v3)) := by
  unfold take1025 filled inRange wrapped
  after_reads_simp
  rfl

set_option maxHeartbeats 1000000 in
/-- The third lookup. -/
theorem look2 : after hostOps0_3 X (Proc.devRef .tc main_v12) = take1025 (X (Proc.devRef .tc main_arg3)) (X (Proc.devRef .tc main_v5)) := by
  unfold take1025 filled inRange wrapped
  after_reads_simp
  rfl

set_option maxHeartbeats 1000000 in
/-- The fourth lookup. -/
theorem look3 : after hostOps0_4 X (Proc.devRef .tc main_v13) = take1025 (X (Proc.devRef .tc main_arg4)) (X (Proc.devRef .tc main_v7)) := by
  unfold take1025 filled inRange wrapped
  after_reads_simp
  rfl

set_option maxHeartbeats 1000000 in
/-- The fifth lookup. -/
theorem look4 : after hostOps0_5 X (Proc.devRef .tc main_v14) = take1025 (X (Proc.devRef .tc main_arg5)) (X (Proc.devRef .tc main_v9)) := by
  unfold take1025 filled inRange wrapped
  after_reads_simp
  rfl

set_option maxHeartbeats 1000000 in
/-- The input projection, of the five looked-up arrays. -/
theorem project : after hostOps0_6 X (Proc.devRef .tc main_v24_0) = projection (concatenate S8x1024x640 2
    [⟨S8x1024x128, X (Proc.devRef .tc main_v10)⟩, ⟨S8x1024x128, X (Proc.devRef .tc main_v11)⟩, ⟨S8x1024x128, X (Proc.devRef .tc main_v12)⟩,
     ⟨S8x1024x128, X (Proc.devRef .tc main_v13)⟩, ⟨S8x1024x128, X (Proc.devRef .tc main_v14)⟩]
    concatenates_S8x1024x128_S8x1024x128_S8x1024x128_S8x1024x128_S8x1024x128_S8x1024x640_d2)
    (X (Proc.devRef .tc main_arg6)) (X (Proc.devRef .tc main_arg8)) := by
  unfold projection
  after_reads_simp
  rfl

set_option maxHeartbeats 1000000 in
/-- The recurrent weights after the last stretch. -/
theorem last_weights : after hostOps0_6 X (Proc.devRef .tc main_v24_1) = X (Proc.devRef .tc main_arg7) := by
  after_reads_simp
  rfl

set_option maxHeartbeats 1000000 in
/-- The recurrent bias after the last stretch. -/
theorem last_bias : after hostOps0_6 X (Proc.devRef .tc main_v24_2) = X (Proc.devRef .tc main_arg9) := by
  after_reads_simp
  rfl

set_option maxHeartbeats 1000000 in
/-- The counter after the last stretch. -/
theorem last_number : after hostOps0_6 X (Proc.devRef .tc main_v24_3) = constantI S_ 32 0#32 := by
  after_reads_simp
  rfl

set_option maxHeartbeats 1000000 in
/-- The carried block after the last stretch. -/
theorem last_block : after hostOps0_6 X (Proc.devRef .tc main_v24_4) = zeroBlock := by
  after_reads_simp
  rfl

/-- Column 0 of the index array. -/
theorem column0 : after hostOps0 X (Proc.devRef .tc main_v1)
    = shapeCast S8x1024 (extractStridedSlice S8x1024x1 ![0, 0, 0] (X (Proc.devRef .tc main_arg0)) slices_S8x1024x5_S8x1024x1_0_0_0) shapeCasts_S8x1024x1_S8x1024 := by
  after_reads_simp
  rfl

/-- Column 1 of the index array. -/
theorem column1 : after hostOps0 X (Proc.devRef .tc main_v3)
    = shapeCast S8x1024 (extractStridedSlice S8x1024x1 ![0, 0, 1] (X (Proc.devRef .tc main_arg0)) slices_S8x1024x5_S8x1024x1_0_0_1) shapeCasts_S8x1024x1_S8x1024 := by
  after_reads_simp
  rfl

/-- Column 2 of the index array. -/
theorem column2 : after hostOps0 X (Proc.devRef .tc main_v5)
    = shapeCast S8x1024 (extractStridedSlice S8x1024x1 ![0, 0, 2] (X (Proc.devRef .tc main_arg0)) slices_S8x1024x5_S8x1024x1_0_0_2) shapeCasts_S8x1024x1_S8x1024 := by
  after_reads_simp
  rfl

/-- Column 3 of the index array. -/
theorem column3 : after hostOps0 X (Proc.devRef .tc main_v7)
    = shapeCast S8x1024 (extractStridedSlice S8x1024x1 ![0, 0, 3] (X (Proc.devRef .tc main_arg0)) slices_S8x1024x5_S8x1024x1_0_0_3) shapeCasts_S8x1024x1_S8x1024 := by
  after_reads_simp
  rfl

/-- Column 4 of the index array. -/
theorem column4 : after hostOps0 X (Proc.devRef .tc main_v9)
    = shapeCast S8x1024 (extractStridedSlice S8x1024x1 ![0, 0, 4] (X (Proc.devRef .tc main_arg0)) slices_S8x1024x5_S8x1024x1_0_0_4) shapeCasts_S8x1024x1_S8x1024 := by
  after_reads_simp
  rfl

end Stretches

variable (m : (ℓ : Loc nD τ sig) → Buf (Elt F) ℓ) (c : Dev nD)

/-- The input projection at the loop's entry. -/
theorem entry_proj : entryContents preI m c (Proc.devRef .tc main_v24_0)
    = projection (embeddings (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)))
      (m ((c.tc : Thread nD τ).loc main_arg6)) (m ((c.tc : Thread nD τ).loc main_arg8)) := by
  simp only [entryContents, afterL_cons, afterL_nil]
  rw [project]
  rw [keep hostOps0_5_writes _ main_v10 (by decide),
    keep hostOps0_4_writes _ main_v10 (by decide),
    keep hostOps0_3_writes _ main_v10 (by decide),
    keep hostOps0_2_writes _ main_v10 (by decide),
    look0,
    keep hostOps0_writes _ main_arg1 (by decide),
    column0]
  rw [keep hostOps0_5_writes _ main_v11 (by decide),
    keep hostOps0_4_writes _ main_v11 (by decide),
    keep hostOps0_3_writes _ main_v11 (by decide),
    look1,
    keep hostOps0_1_writes _ main_arg2 (by decide),
    keep hostOps0_writes _ main_arg2 (by decide),
    keep hostOps0_1_writes _ main_v3 (by decide),
    column1]
  rw [keep hostOps0_5_writes _ main_v12 (by decide),
    keep hostOps0_4_writes _ main_v12 (by decide),
    look2,
    keep hostOps0_2_writes _ main_arg3 (by decide),
    keep hostOps0_1_writes _ main_arg3 (by decide),
    keep hostOps0_writes _ main_arg3 (by decide),
    keep hostOps0_2_writes _ main_v5 (by decide),
    keep hostOps0_1_writes _ main_v5 (by decide),
    column2]
  rw [keep hostOps0_5_writes _ main_v13 (by decide),
    look3,
    keep hostOps0_3_writes _ main_arg4 (by decide),
    keep hostOps0_2_writes _ main_arg4 (by decide),
    keep hostOps0_1_writes _ main_arg4 (by decide),
    keep hostOps0_writes _ main_arg4 (by decide),
    keep hostOps0_3_writes _ main_v7 (by decide),
    keep hostOps0_2_writes _ main_v7 (by decide),
    keep hostOps0_1_writes _ main_v7 (by decide),
    column3]
  rw [look4,
    keep hostOps0_4_writes _ main_arg5 (by decide),
    keep hostOps0_3_writes _ main_arg5 (by decide),
    keep hostOps0_2_writes _ main_arg5 (by decide),
    keep hostOps0_1_writes _ main_arg5 (by decide),
    keep hostOps0_writes _ main_arg5 (by decide),
    keep hostOps0_4_writes _ main_v9 (by decide),
    keep hostOps0_3_writes _ main_v9 (by decide),
    keep hostOps0_2_writes _ main_v9 (by decide),
    keep hostOps0_1_writes _ main_v9 (by decide),
    column4]
  rw [keep hostOps0_5_writes _ main_arg6 (by decide), keep hostOps0_4_writes _ main_arg6 (by decide), keep hostOps0_3_writes _ main_arg6 (by decide), keep hostOps0_2_writes _ main_arg6 (by decide), keep hostOps0_1_writes _ main_arg6 (by decide), keep hostOps0_writes _ main_arg6 (by decide)]
  rw [keep hostOps0_5_writes _ main_arg8 (by decide), keep hostOps0_4_writes _ main_arg8 (by decide), keep hostOps0_3_writes _ main_arg8 (by decide), keep hostOps0_2_writes _ main_arg8 (by decide), keep hostOps0_1_writes _ main_arg8 (by decide), keep hostOps0_writes _ main_arg8 (by decide)]
  rfl

/-- The recurrent weights at the loop's entry. -/
theorem entry_weights : entryContents preI m c (Proc.devRef .tc main_v24_1) = m ((c.tc : Thread nD τ).loc main_arg7) := by
  simp only [entryContents, afterL_cons, afterL_nil]
  rw [last_weights, keep hostOps0_5_writes _ main_arg7 (by decide), keep hostOps0_4_writes _ main_arg7 (by decide), keep hostOps0_3_writes _ main_arg7 (by decide), keep hostOps0_2_writes _ main_arg7 (by decide), keep hostOps0_1_writes _ main_arg7 (by decide), keep hostOps0_writes _ main_arg7 (by decide)]

/-- The recurrent bias at the loop's entry. -/
theorem entry_bias : entryContents preI m c (Proc.devRef .tc main_v24_2) = m ((c.tc : Thread nD τ).loc main_arg9) := by
  simp only [entryContents, afterL_cons, afterL_nil]
  rw [last_bias, keep hostOps0_5_writes _ main_arg9 (by decide), keep hostOps0_4_writes _ main_arg9 (by decide), keep hostOps0_3_writes _ main_arg9 (by decide), keep hostOps0_2_writes _ main_arg9 (by decide), keep hostOps0_1_writes _ main_arg9 (by decide), keep hostOps0_writes _ main_arg9 (by decide)]

/-- The counter at the loop's entry. -/
theorem entry_number : entryContents preI m c (Proc.devRef .tc main_v24_3) = constantI S_ 32 0#32 := by
  simp only [entryContents, afterL_cons, afterL_nil]
  rw [last_number]

/-- The carried block at the loop's entry. -/
theorem entry_block : entryContents preI m c (Proc.devRef .tc main_v24_4) = zeroBlock := by
  simp only [entryContents, afterL_cons, afterL_nil]
  rw [last_block]

end Cert.ReferenceIdeal.Entry

end
-- ==== Proof.KernelProjection.lean ====
/-
  The scan kernel's projected inputs, at one row and one column.

  Row `r` of the 8192x40 array of one-hot lanes has a one in lane `8k + d` for each digit `k` of value `d`. Its product
  with the 40x640 table therefore adds five rows of the table, one per digit: the products of the five looked-up
  embeddings with their 128 columns of the input weights. This holds for digits 0, 1, 2, the rows the table has.
-/
module

public import proofs.«01_k».proof.Proof.ScanValue

@[expose] public section

set_option maxRecDepth 16384

noncomputable section

namespace Cert.KernelIdeal.Scan

open Idealize.ShloMosaic Idealize.ShloMosaic.TcCoe Idealize.SL.Sem
open Cert.KernelIdeal Cert.KernelIdeal.Gen

/-- Row `v` of a table with three rows times columns `0 … 127` of row `j` of the weights. -/
def term3 (e : FVec Ideal S3x128 .f32) (w : FVec Ideal S640x640 .f32) (v : Fin 3) (j : Fin 640) : EReal :=
  ∑ c : Fin 128, e (ix2 v c) * w (ix2 j ⟨c.val, by omega⟩)

/-- Row `v` of a table with 1025 rows times columns `o … o+127` of row `j` of the weights. -/
def term (e : FVec Ideal S1025x128 .f32) (w : FVec Ideal S640x640 .f32) (o : ℕ) (ho : o + 128 ≤ 640) (v : Fin 1025) (j : Fin 640) :
    EReal :=
  ∑ c : Fin 128, e (ix2 v c) * w (ix2 j ⟨o + c.val, by omega⟩)

/-- A digit compared with a lane's number, as a real number: one in the lane of number `offset + digit`, zero elsewhere. -/
theorem compare_eq (l : Fin 40) (d : BitVec 32) (o : ℕ) (ho : o ≤ 32) (hd : d.toNat < 3) :
    FloatOps.sitofp (F := Ideal) .f32
        (BitVec.setWidth 32 (IntOp.cmpi CmpIPredicate.eq (BitVec.ofNat 32 l.val) (IntOp.addi d (BitVec.ofNat 32 o))))
      = if l = ⟨d.toNat + o, by omega⟩ then (1 : EReal) else 0 := by
  have hl := l.isLt
  have key : (BitVec.ofNat 32 l.val = d + BitVec.ofNat 32 o) ↔ l = ⟨d.toNat + o, by omega⟩ := by
    rw [BitVec.toNat_inj.symm, Fin.ext_iff, BitVec.toNat_add, BitVec.toNat_ofNat, BitVec.toNat_ofNat]
    show _ ↔ l.val = d.toNat + o
    omega
  by_cases h : l = ⟨d.toNat + o, by omega⟩
  · rw [if_pos h]
    have e : IntOp.cmpi CmpIPredicate.eq (BitVec.ofNat 32 l.val) (IntOp.addi d (BitVec.ofNat 32 o)) = 1#1 := by
      have := key.mpr h
      simp [IntOp.cmpi, IntOp.addi, this]
    rw [e]
    show (((BitVec.setWidth 32 1#1).toInt : ℝ) : EReal) = 1
    norm_num
  · rw [if_neg h]
    have e : IntOp.cmpi CmpIPredicate.eq (BitVec.ofNat 32 l.val) (IntOp.addi d (BitVec.ofNat 32 o)) = 0#1 := by
      have ne : (BitVec.ofNat 32 l.val == d + BitVec.ofNat 32 o) = false := beq_eq_false_iff_ne.mpr fun q => h (key.mp q)
      show BitVec.ofBool (BitVec.ofNat 32 l.val == d + BitVec.ofNat 32 o) = 0#1
      rw [ne]; rfl
    rw [e]
    show (((BitVec.setWidth 32 0#1).toInt : ℝ) : EReal) = 0
    norm_num

theorem indicator_nonneg {n : ℕ} (l a : Fin n) : (0 : EReal) ≤ if l = a then 1 else 0 := by
  split <;> simp

theorem sum_indicator {n : ℕ} (T : Fin n → EReal) (a : Fin n) : ∑ l : Fin n, (if l = a then (1 : EReal) else 0) * T l = T a := by
  simp only [ite_mul, one_mul, zero_mul, Finset.sum_ite_eq', Finset.mem_univ, if_true]

/-- Five indicators added and multiplied into a table pick five of its entries. -/
theorem sum_indicators {n : ℕ} (T : Fin n → EReal) (a0 a1 a2 a3 a4 : Fin n) :
    ∑ l : Fin n, (((((if l = a0 then (1 : EReal) else 0) + (if l = a1 then 1 else 0)) + (if l = a2 then 1 else 0))
        + (if l = a3 then 1 else 0)) + (if l = a4 then 1 else 0)) * T l
      = T a0 + T a1 + T a2 + T a3 + T a4 := by
  have h : ∀ l : Fin n, (((((if l = a0 then (1 : EReal) else 0) + (if l = a1 then 1 else 0)) + (if l = a2 then 1 else 0))
        + (if l = a3 then 1 else 0)) + (if l = a4 then 1 else 0)) * T l
      = (if l = a0 then (1 : EReal) else 0) * T l + (if l = a1 then 1 else 0) * T l + (if l = a2 then 1 else 0) * T l
        + (if l = a3 then 1 else 0) * T l + (if l = a4 then 1 else 0) * T l := by
    intro l
    have n0 := indicator_nonneg l a0
    have n1 := indicator_nonneg l a1
    have n2 := indicator_nonneg l a2
    have n3 := indicator_nonneg l a3
    rw [EReal.right_distrib_of_nonneg (add_nonneg (add_nonneg (add_nonneg n0 n1) n2) n3) (indicator_nonneg l a4),
      EReal.right_distrib_of_nonneg (add_nonneg (add_nonneg n0 n1) n2) n3,
      EReal.right_distrib_of_nonneg (add_nonneg n0 n1) n2, EReal.right_distrib_of_nonneg n0 n1]
  rw [Finset.sum_congr rfl fun l _ => h l]
  simp only [Finset.sum_add_distrib, sum_indicator]

section

variable (x : Vec Ideal S8192x5 .i32) (e0 : FVec Ideal S3x128 .f32) (e1 e2 e3 e4 : FVec Ideal S1025x128 .f32)
  (w : FVec Ideal S640x640 .f32) (b b' : FVec Ideal S1x640 .f32)

/-- The lanes of row `r`: five indicators, one per digit. -/
theorem lanes (r : Fin 8192) (l : Fin 40) (hd : ∀ k : Fin 5, (x (ix2 r k)).toNat < 3) :
    k0_pay11 (F := Ideal) x (ix2 r l) + FloatOps.sitofp .f32 (BitVec.setWidth 32 (k0_pay12 (F := Ideal) x (ix2 r l)))
      = ((((if l = ⟨(x (ix2 r 0)).toNat + 0, by have := hd 0; omega⟩ then (1 : EReal) else 0)
          + (if l = ⟨(x (ix2 r 1)).toNat + 8, by have := hd 1; omega⟩ then 1 else 0))
          + (if l = ⟨(x (ix2 r 2)).toNat + 16, by have := hd 2; omega⟩ then 1 else 0))
          + (if l = ⟨(x (ix2 r 3)).toNat + 24, by have := hd 3; omega⟩ then 1 else 0))
          + (if l = ⟨(x (ix2 r 4)).toNat + 32, by have := hd 4; omega⟩ then 1 else 0) := by
  rw [← compare_eq l (x (ix2 r 0)) 0 (by omega) (hd 0), ← compare_eq l (x (ix2 r 1)) 8 (by omega) (hd 1),
    ← compare_eq l (x (ix2 r 2)) 16 (by omega) (hd 2), ← compare_eq l (x (ix2 r 3)) 24 (by omega) (hd 3),
    ← compare_eq l (x (ix2 r 4)) 32 (by omega) (hd 4)]
  unfold k0_pay11 k0_pay12 k0_pay10
  pointwise

/-- The 40x640 table. -/
abbrev table : FVec Ideal S40x640 .f32 :=
  k0_pay9 (F := Ideal) (k0_pay4 e0 (columnsAt w 0)) (k0_pay5 (topRows e1) (columnsAt w 128))
      (k0_pay6 (topRows e2) (columnsAt w 256)) (k0_pay7 (topRows e3) (columnsAt w 384))
      (k0_pay8 (topRows e4) (columnsAt w 512))

/-- Rows 0 to 2 of the table belong to the first digit. -/
theorem table0 (v : ℕ) (hv : v < 3) (j : Fin 640) :
    table e0 e1 e2 e3 e4 w (ix2 ⟨v + 0, by omega⟩ j) = term3 e0 w ⟨v, hv⟩ j := by
  unfold table k0_pay9 k0_pay4 topRows columnsAt term3
  pointwise
  rw [dif_pos (by omega), dif_pos (by omega)]
  refine Finset.sum_congr rfl fun c _ => congrArg₂ (· * ·) rfl (congrArg w (congrArg (ix2 j) (Fin.ext ?_)))
  exact Nat.mod_eq_of_lt (by omega)

/-- Rows 8 to 10 of the table belong to the second digit. -/
theorem table1 (v : ℕ) (hv : v < 3) (j : Fin 640) :
    table e0 e1 e2 e3 e4 w (ix2 ⟨v + 8, by omega⟩ j) = term e1 w 128 (by omega) ⟨v, by omega⟩ j := by
  unfold table k0_pay9 k0_pay5 topRows columnsAt term
  pointwise
  rw [dif_neg (by omega), dif_pos (by omega), dif_pos (by omega)]
  refine Finset.sum_congr rfl fun c _ => congrArg₂ (· * ·)
    (congrArg e1 (congrArg (ix2 · c) (Fin.ext ?_))) (congrArg w (congrArg (ix2 j) (Fin.ext ?_)))
  · show (v + 8 - 8) % 1025 = v
    omega
  · exact Nat.mod_eq_of_lt (by omega)

/-- Rows 16 to 18 of the table belong to the third digit. -/
theorem table2 (v : ℕ) (hv : v < 3) (j : Fin 640) :
    table e0 e1 e2 e3 e4 w (ix2 ⟨v + 16, by omega⟩ j) = term e2 w 256 (by omega) ⟨v, by omega⟩ j := by
  unfold table k0_pay9 k0_pay6 topRows columnsAt term
  pointwise
  rw [dif_neg (by omega), dif_neg (by omega), dif_pos (by omega), dif_pos (by omega)]
  refine Finset.sum_congr rfl fun c _ => congrArg₂ (· * ·)
    (congrArg e2 (congrArg (ix2 · c) (Fin.ext ?_))) (congrArg w (congrArg (ix2 j) (Fin.ext ?_)))
  · show (v + 16 - 8 - 8) % 1025 = v
    omega
  · exact Nat.mod_eq_of_lt (by omega)

/-- Rows 24 to 26 of the table belong to the fourth digit. -/
theorem table3 (v : ℕ) (hv : v < 3) (j : Fin 640) :
    table e0 e1 e2 e3 e4 w (ix2 ⟨v + 24, by omega⟩ j) = term e3 w 384 (by omega) ⟨v, by omega⟩ j := by
  unfold table k0_pay9 k0_pay7 topRows columnsAt term
  pointwise
  rw [dif_neg (by omega), dif_neg (by omega), dif_neg (by omega), dif_pos (by omega), dif_pos (by omega)]
  refine Finset.sum_congr rfl fun c _ => congrArg₂ (· * ·)
    (congrArg e3 (congrArg (ix2 · c) (Fin.ext ?_))) (congrArg w (congrArg (ix2 j) (Fin.ext ?_)))
  · show (v + 24 - 8 - 8 - 8) % 1025 = v
    omega
  · exact Nat.mod_eq_of_lt (by omega)

/-- Rows 32 to 34 of the table belong to the fifth digit. -/
theorem table4 (v : ℕ) (hv : v < 3) (j : Fin 640) :
    table e0 e1 e2 e3 e4 w (ix2 ⟨v + 32, by omega⟩ j) = term e4 w 512 (by omega) ⟨v, by omega⟩ j := by
  unfold table k0_pay9 k0_pay8 topRows columnsAt term
  pointwise
  rw [dif_neg (by omega), dif_neg (by omega), dif_neg (by omega), dif_neg (by omega), dif_pos (by omega)]
  refine Finset.sum_congr rfl fun c _ => congrArg₂ (· * ·)
    (congrArg e4 (congrArg (ix2 · c) (Fin.ext ?_))) (congrArg w (congrArg (ix2 j) (Fin.ext ?_)))
  · show (v + 32 - 8 - 8 - 8 - 8) % 1025 = v
    omega
  · exact Nat.mod_eq_of_lt (by omega)

/-- One entry of the projected inputs: the five digits' terms, plus the sum of the biases. -/
theorem preactivation_apply (r : Fin 8192) (j : Fin 640) (hd : ∀ k : Fin 5, (x (ix2 r k)).toNat < 3) :
    preactivation x e0 e1 e2 e3 e4 w b b' (ix2 r j)
      = (term3 e0 w ⟨(x (ix2 r 0)).toNat, hd 0⟩ j
          + term e1 w 128 (by omega) ⟨(x (ix2 r 1)).toNat, by have := hd 1; omega⟩ j
          + term e2 w 256 (by omega) ⟨(x (ix2 r 2)).toNat, by have := hd 2; omega⟩ j
          + term e3 w 384 (by omega) ⟨(x (ix2 r 3)).toNat, by have := hd 3; omega⟩ j
          + term e4 w 512 (by omega) ⟨(x (ix2 r 4)).toNat, by have := hd 4; omega⟩ j)
        + (b (ix2 0 j) + b' (ix2 0 j)) := by
  have h : preactivation x e0 e1 e2 e3 e4 w b b' (ix2 r j)
      = (∑ l : Fin 40, (k0_pay11 (F := Ideal) x (ix2 r l)
          + FloatOps.sitofp .f32 (BitVec.setWidth 32 (k0_pay12 (F := Ideal) x (ix2 r l)))) * table e0 e1 e2 e3 e4 w (ix2 l j))
        + (b (ix2 0 j) + b' (ix2 0 j)) := by
    unfold preactivation k0_pay1
    generalize k0_pay11 (F := Ideal) x = lanes4
    generalize k0_pay12 (F := Ideal) x = lane5
    unfold table
    generalize k0_pay9 (F := Ideal) _ _ _ _ _ = tbl
    pointwise
  rw [h, Finset.sum_congr rfl fun l _ => congrArg (· * table e0 e1 e2 e3 e4 w (ix2 l j)) (lanes x r l hd),
    sum_indicators (fun l => table e0 e1 e2 e3 e4 w (ix2 l j)), table0 e0 e1 e2 e3 e4 w _ (hd 0), table1 e0 e1 e2 e3 e4 w _ (hd 1),
    table2 e0 e1 e2 e3 e4 w _ (hd 2), table3 e0 e1 e2 e3 e4 w _ (hd 3), table4 e0 e1 e2 e3 e4 w _ (hd 4)]

end

end Cert.KernelIdeal.Scan

end
-- ==== Proof.RefProjection.lean ====
/-
  The reference's input projection, at one time, one sequence and one column.

  The sum over the 640 columns of the concatenated embeddings is cut into the five runs of 128 columns, one per digit.
-/
module

public import proofs.«01_k».proof.Proof.RefEntry
public import proofs.«01_k».proof.Proof.KernelProjection

@[expose] public section

set_option maxRecDepth 16384

noncomputable section

namespace Cert.ReferenceIdeal.Entry

open Idealize.ShloMosaic Idealize.ShloMosaic.TcCoe Idealize.SL.Sem Idealize.ShloMosaic.StableHlo
open Cert.ReferenceIdeal Cert.ReferenceIdeal.Gen Cert.ReferenceIdeal.Value Cert.ReferenceIdeal.Lookup
open Cert.KernelIdeal.Scan (term3 term)

/-- A sum over 640 columns, cut into five runs of 128. -/
theorem sum_five (f : Fin 640 → EReal) :
    ∑ c : Fin 640, f c = (∑ c : Fin 128, f ⟨c.val, by omega⟩) + (∑ c : Fin 128, f ⟨128 + c.val, by omega⟩)
      + (∑ c : Fin 128, f ⟨256 + c.val, by omega⟩) + (∑ c : Fin 128, f ⟨384 + c.val, by omega⟩)
      + (∑ c : Fin 128, f ⟨512 + c.val, by omega⟩) := by
  have h1 := Fin.sum_univ_add (a := 512) (b := 128) f
  have h2 := Fin.sum_univ_add (a := 384) (b := 128) fun i => f (Fin.castAdd 128 i)
  have h3 := Fin.sum_univ_add (a := 256) (b := 128) fun i => f (Fin.castAdd 128 (Fin.castAdd 128 i))
  have h4 := Fin.sum_univ_add (a := 128) (b := 128) fun i => f (Fin.castAdd 128 (Fin.castAdd 128 (Fin.castAdd 128 i)))
  exact h1.trans (congrArg (· + _) (h2.trans (congrArg (· + _) (h3.trans (congrArg (· + _) h4)))))

/-- A digit that is not negative read signed is the same read unsigned. -/
theorem toNat_of_nonneg {d : BitVec 32} (h0 : 0 ≤ d.toInt) : d.toInt.toNat = d.toNat := by
  have h := BitVec.toInt_eq_toNat_cond d
  have hl := d.isLt
  split at h <;> omega

section

variable (x : IVec S8x1024x5 32) (e0 : FVec Ideal S3x128 .f32) (e1 e2 e3 e4 : FVec Ideal S1025x128 .f32)
  (hx : ∀ (b : Fin 8) (t : Fin 1024) (k : Fin 5), 0 ≤ (x (ix3 b t k)).toInt ∧ (x (ix3 b t k)).toInt < 3)

include hx

/-- A digit in range, read unsigned. -/
theorem digit_lt (b : Fin 8) (t : Fin 1024) (k : Fin 5) : (x (ix3 b t k)).toNat < 3 := by
  have h := hx b t k
  have := toNat_of_nonneg h.1
  omega

/-- The first run of 128 columns of the embeddings: the row the first digit names. -/
theorem embeddings0 (b : Fin 8) (t : Fin 1024) (c : Fin 128) :
    embeddings x e0 e1 e2 e3 e4 (ix3 b t ⟨c.val, by omega⟩) = e0 (ix2 ⟨(x (ix3 b t 0)).toNat, digit_lt x hx b t 0⟩ c) := by
  have hc : shapeCast S8x1024 (extractStridedSlice S8x1024x1 ![0, 0, 0] x slices_S8x1024x5_S8x1024x1_0_0_0) shapeCasts_S8x1024x1_S8x1024 (ix2 b t)
      = x (ix3 b t 0) := by pointwise
  unfold embeddings
  pointwise
  rw [take3_apply _ _ _ _ _ (by rw [hc]; exact (hx b t 0).1) (by rw [hc]; exact (hx b t 0).2)]
  refine congrArg e0 (congrArg (ix2 · c) (Fin.ext ?_))
  show (BitVec.toInt _).toNat = _
  rw [hc]
  exact toNat_of_nonneg (hx b t 0).1

/-- The second run of 128 columns of the embeddings: the row the second digit names. -/
theorem embeddings1 (b : Fin 8) (t : Fin 1024) (c : Fin 128) :
    embeddings x e0 e1 e2 e3 e4 (ix3 b t ⟨128 + c.val, by omega⟩)
      = e1 (ix2 ⟨(x (ix3 b t 1)).toNat, (digit_lt x hx b t 1).trans (by decide)⟩ c) := by
  have hc : shapeCast S8x1024 (extractStridedSlice S8x1024x1 ![0, 0, 1] x slices_S8x1024x5_S8x1024x1_0_0_1) shapeCasts_S8x1024x1_S8x1024 (ix2 b t)
      = x (ix3 b t 1) := by pointwise
  unfold embeddings
  pointwise
  rw [take1025_apply _ _ _ _ _ (by rw [hc]; exact (hx b t 1).1) (by rw [hc]; exact (hx b t 1).2)]
  refine congrArg e1 (congrArg (ix2 · c) (Fin.ext ?_))
  show (BitVec.toInt _).toNat = _
  rw [hc]
  exact toNat_of_nonneg (hx b t 1).1

/-- The third run of 128 columns of the embeddings: the row the third digit names. -/
theorem embeddings2 (b : Fin 8) (t : Fin 1024) (c : Fin 128) :
    embeddings x e0 e1 e2 e3 e4 (ix3 b t ⟨256 + c.val, by omega⟩)
      = e2 (ix2 ⟨(x (ix3 b t 2)).toNat, (digit_lt x hx b t 2).trans (by decide)⟩ c) := by
  have hc : shapeCast S8x1024 (extractStridedSlice S8x1024x1 ![0, 0, 2] x slices_S8x1024x5_S8x1024x1_0_0_2) shapeCasts_S8x1024x1_S8x1024 (ix2 b t)
      = x (ix3 b t 2) := by pointwise
  unfold embeddings
  pointwise
  rw [dif_neg (by omega), dif_neg (by omega), dif_pos (by omega), take1025_apply _ _ _ _ _ (by rw [hc]; exact (hx b t 2).1) (by rw [hc]; exact (hx b t 2).2)]
  refine congrArg e2 (congrArg₂ ix2 (Fin.ext ?_) (Fin.ext ?_))
  · show (BitVec.toInt _).toNat = _
    rw [hc]
    exact toNat_of_nonneg (hx b t 2).1
  · show 256 + c.val - 128 - 128 = c.val
    omega

/-- The fourth run of 128 columns of the embeddings: the row the fourth digit names. -/
theorem embeddings3 (b : Fin 8) (t : Fin 1024) (c : Fin 128) :
    embeddings x e0 e1 e2 e3 e4 (ix3 b t ⟨384 + c.val, by omega⟩)
      = e3 (ix2 ⟨(x (ix3 b t 3)).toNat, (digit_lt x hx b t 3).trans (by decide)⟩ c) := by
  have hc : shapeCast S8x1024 (extractStridedSlice S8x1024x1 ![0, 0, 3] x slices_S8x1024x5_S8x1024x1_0_0_3) shapeCasts_S8x1024x1_S8x1024 (ix2 b t)
      = x (ix3 b t 3) := by pointwise
  unfold embeddings
  pointwise
  rw [dif_neg (by omega), dif_neg (by omega), dif_neg (by omega), dif_pos (by omega), take1025_apply _ _ _ _ _ (by rw [hc]; exact (hx b t 3).1) (by rw [hc]; exact (hx b t 3).2)]
  refine congrArg e3 (congrArg₂ ix2 (Fin.ext ?_) (Fin.ext ?_))
  · show (BitVec.toInt _).toNat = _
    rw [hc]
    exact toNat_of_nonneg (hx b t 3).1
  · show 384 + c.val - 128 - 128 - 128 = c.val
    omega

/-- The fifth run of 128 columns of the embeddings: the row the fifth digit names. -/
theorem embeddings4 (b : Fin 8) (t : Fin 1024) (c : Fin 128) :
    embeddings x e0 e1 e2 e3 e4 (ix3 b t ⟨512 + c.val, by omega⟩)
      = e4 (ix2 ⟨(x (ix3 b t 4)).toNat, (digit_lt x hx b t 4).trans (by decide)⟩ c) := by
  have hc : shapeCast S8x1024 (extractStridedSlice S8x1024x1 ![0, 0, 4] x slices_S8x1024x5_S8x1024x1_0_0_4) shapeCasts_S8x1024x1_S8x1024 (ix2 b t)
      = x (ix3 b t 4) := by pointwise
  unfold embeddings
  pointwise
  rw [dif_neg (by omega), dif_neg (by omega), dif_neg (by omega), dif_neg (by omega), take1025_apply _ _ _ _ _ (by rw [hc]; exact (hx b t 4).1) (by rw [hc]; exact (hx b t 4).2)]
  refine congrArg e4 (congrArg₂ ix2 (Fin.ext ?_) (Fin.ext ?_))
  · show (BitVec.toInt _).toNat = _
    rw [hc]
    exact toNat_of_nonneg (hx b t 4).1
  · show 512 + c.val - 128 - 128 - 128 - 128 = c.val
    omega

end

/-- One entry of the input projection: the five digits' terms, plus the input bias. -/
theorem projection_apply (x : IVec S8x1024x5 32) (e0 : FVec Ideal S3x128 .f32) (e1 e2 e3 e4 : FVec Ideal S1025x128 .f32)
    (hx : ∀ (b : Fin 8) (t : Fin 1024) (k : Fin 5), 0 ≤ (x (ix3 b t k)).toInt ∧ (x (ix3 b t k)).toInt < 3)
    (w : FVec Ideal S640x640 .f32) (bias : FVec Ideal S640 .f32) (t : Fin 1024) (b : Fin 8) (j : Fin 640) :
    projection (embeddings x e0 e1 e2 e3 e4) w bias (ix3 t b j)
      = (term3 e0 w ⟨(x (ix3 b t 0)).toNat, digit_lt x hx b t 0⟩ j
          + term e1 w 128 (by omega) ⟨(x (ix3 b t 1)).toNat, (digit_lt x hx b t 1).trans (by decide)⟩ j
          + term e2 w 256 (by omega) ⟨(x (ix3 b t 2)).toNat, (digit_lt x hx b t 2).trans (by decide)⟩ j
          + term e3 w 384 (by omega) ⟨(x (ix3 b t 3)).toNat, (digit_lt x hx b t 3).trans (by decide)⟩ j
          + term e4 w 512 (by omega) ⟨(x (ix3 b t 4)).toNat, (digit_lt x hx b t 4).trans (by decide)⟩ j)
        + bias (ix1 j) := by
  have h : projection (embeddings x e0 e1 e2 e3 e4) w bias (ix3 t b j)
      = (∑ c : Fin 640, embeddings x e0 e1 e2 e3 e4 (ix3 b t c) * w (ix2 j c)) + bias (ix1 j) := by
    generalize embeddings x e0 e1 e2 e3 e4 = emb
    unfold projection
    pointwise
  rw [h, sum_five]
  simp only [embeddings0 x e0 e1 e2 e3 e4 hx, embeddings1 x e0 e1 e2 e3 e4 hx, embeddings2 x e0 e1 e2 e3 e4 hx,
    embeddings3 x e0 e1 e2 e3 e4 hx, embeddings4 x e0 e1 e2 e3 e4 hx]
  rfl

end Cert.ReferenceIdeal.Entry

end
-- ==== Proof.RefLoop.lean ====
/-
  The loop of the reference.

  The reference's loop carries a block `h` of 8x640 and a result array of 1024 slices 8x640. Trip `t` computes
  `tanh (slice t of the input projection + h · weightsᵀ + bias)`, writes it to slice `t` of the result array and carries it
  on. This module states what the carried block and the result array hold after any number of trips.
-/
module

public import proofs.«01_k».proof.Proof.Gen.ReferenceIdeal.Run
public import Idealize.ShloMosaic.Lib.Pointwise
public import Idealize.ShloMosaic.Lib.DynamicIndex

@[expose] public section

set_option maxRecDepth 16384

noncomputable section

namespace Cert.ReferenceIdeal.Recurrence

open Idealize.ShloMosaic Idealize.ShloMosaic.TcCoe Idealize.SL.Sem Idealize.ShloMosaic.StableHlo
open Cert.ReferenceIdeal Cert.ReferenceIdeal.Gen Cert.ReferenceIdeal.Value

variable {F : FTy → Type} [FloatOps F]

/-- Slice `k` of an array of 1024 slices. -/
def sliceOf (p : Vec F S1024x8x640 .f32) (k : ℕ) : Vec F S8x640 .f32 :=
  fun j => p (ix3 ⟨k % 1024, Nat.mod_lt _ (by decide)⟩ (j 0) (j 1))

/-- The next carried block, of the trip's slice of the input projection and the block before it. -/
def stepOf (row : Vec F S8x640 .f32) (w : Vec F S640x640 .f32) (b : Vec F S640 .f32) (h : Vec F S8x640 .f32) : Vec F S8x640 .f32 :=
  Host.tanh (addf (addf row (Host.dotGeneral dot_S8x640_S640x640_S8x640_1_0_0_1_n_n none h
    (transpose S640x640 [1, 0] w transposes_S640x640_S640x640_1_0)))
    (broadcastInDim S8x640 ![0, 1] bcast_S1x640_S8x640_0_1 (broadcastInDim S1x640 ![1] bcast_S640_S1x640_1 b)))

/-- The carried block before trip `k`, from the block `h₀` at entry. -/
def blockAt (p : Vec F S1024x8x640 .f32) (w : Vec F S640x640 .f32) (b : Vec F S640 .f32) (h₀ : Vec F S8x640 .f32) : ℕ → Vec F S8x640 .f32
  | 0 => h₀
  | k + 1 => stepOf (sliceOf p k) w b (blockAt p w b h₀ k)

/-- The result array after `k` trips, from the array `o` at entry. -/
def slicesAfter (p : Vec F S1024x8x640 .f32) (w : Vec F S640x640 .f32) (b : Vec F S640 .f32) (h₀ : Vec F S8x640 .f32)
    (o : Vec F S1024x8x640 .f32) (k : ℕ) : Vec F S1024x8x640 .f32 :=
  fun y => if (y 0).val < k then blockAt p w b h₀ ((y 0).val + 1) (ix2 (y 1) (y 2)) else o y

/-- A trip's number as a 32-bit word, read signed. -/
theorem number_toInt {k : ℕ} (hk : k < 1024) : ((constantI S_ 32 (BitVec.ofNat 32 k) : IVec S_ 32) (Shape.Idx.first h_S_)).toInt = (k : ℤ) :=
  toInt_ofNat_of_lt (by omega)

/-- The three start coordinates of trip `k`: its number, and two zeros. -/
abbrev startAt (k : ℕ) : Fin 3 → ℤ :=
  fun a => (((![constantI S_ 32 (BitVec.ofNat 32 k), constantI S_ 32 0#32, constantI S_ 32 0#32] : Fin 3 → IVec S_ 32)) a (Shape.Idx.first h_S_)).toInt

theorem startAt_eq {k : ℕ} (hk : k < 1024) : ∀ a : Fin 3, startAt k a = ((![k, 0, 0] : Fin 3 → ℕ) a : ℤ)
  | ⟨0, _⟩ => number_toInt hk
  | ⟨1, _⟩ => rfl
  | ⟨2, _⟩ => rfl

/-- The slice a trip loads is the slice of its number. -/
theorem load_eq {k : ℕ} (hk : k < 1024) (p : Vec F S1024x8x640 .f32) :
    shapeCast S8x640 (Host.dynamicSlice S1x8x640 p (startAt k) sliceFits_S1024x8x640_S1x8x640) shapeCasts_S1x8x640_S8x640
      = sliceOf p k := by
  have hoff : S1024x8x640.Slices (![k, 0, 0] : Fin 3 → ℕ) S1x8x640 := ⟨rfl, fun
    | ⟨0, _⟩ => by show k + 1 ≤ 1024; omega
    | ⟨1, _⟩ => by show 0 + 8 ≤ 8; omega
    | ⟨2, _⟩ => by show 0 + 640 ≤ 640; omega⟩
  rw [Host.dynamicSlice_eq_extractStridedSlice S1x8x640 p (startAt k) ![k, 0, 0] _ hoff (startAt_eq hk)]
  funext j
  unfold sliceOf
  pointwise
  exact congrArg (fun i => p (ix3 i (j 0) (j 1))) (Fin.ext (Nat.mod_eq_of_lt hk).symm)

/-- The slice a trip writes is the slice of its number; the others stay. -/
theorem store_eq {k : ℕ} (hk : k < 1024) (o : Vec F S1024x8x640 .f32) (h : Vec F S8x640 .f32) :
    Host.dynamicUpdateSlice o (broadcastInDim S1x8x640 ![1, 2] bcast_S8x640_S1x8x640_1_2 h) (startAt k) updateFits_S1024x8x640_S1x8x640
      = fun y => if (y 0).val = k then h (ix2 (y 1) (y 2)) else o y := by
  have e : ∀ a : Fin 3, Host.clampedStart S1024x8x640 S1x8x640 rfl (startAt k) a = (![k, 0, 0] : Fin 3 → ℕ) a := fun a =>
    Host.clampedStart_of_le (s := S1024x8x640) (t := S1x8x640) rfl (startAt k) a ((![k, 0, 0] : Fin 3 → ℕ) a) (startAt_eq hk a) (by
      match a with
      | ⟨0, _⟩ => show k + 1 ≤ 1024; omega
      | ⟨1, _⟩ => show 0 + 8 ≤ 8; omega
      | ⟨2, _⟩ => show 0 + 640 ≤ 640; omega)
  funext y
  have hy1 : (y 1).val < 8 := (y 1).isLt
  have hy2 : (y 2).val < 640 := (y 2).isLt
  rw [Host.dynamicUpdateSlice_apply]
  by_cases hy : (y 0).val = k
  · rw [if_pos hy, dif_pos (fun a => by
      rw [e a]
      match a with
      | ⟨0, _⟩ => show k ≤ (y 0).val ∧ (y 0).val < k + 1; omega
      | ⟨1, _⟩ => show 0 ≤ (y 1).val ∧ (y 1).val < 0 + 8; omega
      | ⟨2, _⟩ => show 0 ≤ (y 2).val ∧ (y 2).val < 0 + 640; omega)]
    pointwise
    have e1 : Host.clampedStart S1024x8x640 S1x8x640 rfl (startAt k) 1 = 0 := e 1
    have e2 : Host.clampedStart S1024x8x640 S1x8x640 rfl (startAt k) 2 = 0 := e 2
    exact congrArg h (congrArg₂ ix2 (Fin.ext ((congrArg ((y 1).val - ·) e1).trans (Nat.sub_zero _)))
      (Fin.ext ((congrArg ((y 2).val - ·) e2).trans (Nat.sub_zero _))))
  · rw [if_neg hy, dif_neg (fun hin => hy (by
      have := hin 0
      rw [e 0] at this
      have : k ≤ (y 0).val ∧ (y 0).val < k + 1 := this
      omega))]

/-- The contents of the loop's buffers before trip `k`, from contents `V` at entry. -/
structure Holds (V X : Valuation τ sig (Elt F)) (k : ℕ) : Prop where
  /-- The input projection is not written. -/
  proj : X (Proc.devRef .tc main_v24_0) = V (Proc.devRef .tc main_v24_0)
  /-- The recurrent weights are not written. -/
  weights : X (Proc.devRef .tc main_v24_1) = V (Proc.devRef .tc main_v24_1)
  /-- The bias is not written. -/
  bias : X (Proc.devRef .tc main_v24_2) = V (Proc.devRef .tc main_v24_2)
  /-- The counter is the trip's number. -/
  number : X (Proc.devRef .tc main_v24_3) = constantI S_ 32 (BitVec.ofNat 32 k)
  /-- The carried block. -/
  block : X (Proc.devRef .tc main_v24_4) = blockAt (V (Proc.devRef .tc main_v24_0)) (V (Proc.devRef .tc main_v24_1))
    (V (Proc.devRef .tc main_v24_2)) (V (Proc.devRef .tc main_v24_4)) k
  /-- The result array. -/
  slices : X (Proc.devRef .tc main_v24_5) = slicesAfter (V (Proc.devRef .tc main_v24_0)) (V (Proc.devRef .tc main_v24_1))
    (V (Proc.devRef .tc main_v24_2)) (V (Proc.devRef .tc main_v24_4)) (V (Proc.devRef .tc main_v24_5)) k

variable {V X : Valuation τ sig (Elt F)}

/-- The block a trip computes. -/
theorem computed {k : ℕ} (hk : k < 1024) (h : Holds V X k) :
    res_main_while0b_v59 X = blockAt (V (Proc.devRef .tc main_v24_0)) (V (Proc.devRef .tc main_v24_1))
      (V (Proc.devRef .tc main_v24_2)) (V (Proc.devRef .tc main_v24_4)) (k + 1) := by
  unfold res_main_while0b_v59
  rw [h.proj, h.weights, h.bias, h.number, h.block]
  exact congrArg (fun r => stepOf r (V (Proc.devRef .tc main_v24_1)) (V (Proc.devRef .tc main_v24_2)) (blockAt (V (Proc.devRef .tc main_v24_0))
    (V (Proc.devRef .tc main_v24_1)) (V (Proc.devRef .tc main_v24_2)) (V (Proc.devRef .tc main_v24_4)) k))
    (load_eq hk (V (Proc.devRef .tc main_v24_0)))

/-- One trip goes from number `k` to number `k + 1`. -/
theorem holds_step {k : ℕ} (hk : k < 1024) (h : Holds V X k) : Holds V (STEP X) (k + 1) where
  proj := (STEP_main_v24_0 X).trans h.proj
  weights := (STEP_main_v24_1 X).trans h.weights
  bias := (STEP_main_v24_2 X).trans h.bias
  number := by
    rw [STEP_main_v24_3]
    unfold step_main_v24_3
    rw [h.number]
    funext i
    show BitVec.ofNat 32 k + 1#32 = BitVec.ofNat 32 (k + 1)
    simp only [BitVec.ofNat_add]
  block := by
    rw [STEP_main_v24_4]
    exact computed hk h
  slices := by
    rw [STEP_main_v24_5]
    unfold step_main_v24_5
    rw [computed hk h, h.slices, h.number]
    refine (store_eq hk _ _).trans ?_
    funext y
    unfold slicesAfter
    by_cases h1 : (y 0).val = k
    · rw [if_pos h1, if_pos (by omega), h1]
    · rw [if_neg h1]
      by_cases h2 : (y 0).val < k
      · rw [if_pos h2, if_pos (by omega)]
      · rw [if_neg h2, if_neg (by omega)]

/-- Before any trip: the contents at entry, where the counter is zero. -/
theorem holds_zero (h0 : V (Proc.devRef .tc main_v24_3) = constantI S_ 32 0#32) : Holds V V 0 where
  proj := rfl
  weights := rfl
  bias := rfl
  number := h0
  block := rfl
  slices := by
    funext y
    unfold slicesAfter
    rw [if_neg (Nat.not_lt_zero _)]

/-- Before trip `k`, or after the last. -/
theorem holds_iter (h0 : V (Proc.devRef .tc main_v24_3) = constantI S_ 32 0#32) : ∀ k : ℕ, k ≤ 1024 → Holds V (STEP^[k] V) k
  | 0, _ => holds_zero h0
  | k + 1, hk => by
    rw [Function.iterate_succ_apply']
    exact holds_step (by omega) (holds_iter h0 k (by omega))

end Cert.ReferenceIdeal.Recurrence

end
-- ==== Proof.HostReads.lean ====
/-
  The arrays between the two kernels: what the host operations before the scan kernel and before the heads kernel leave.
-/
module

public import proofs.«01_k».proof.Proof.Gen.KernelIdeal.Frame
public import Idealize.ShloMosaic.Lib.StableHlo.RunRead

@[expose] public section

set_option maxRecDepth 16384

noncomputable section

namespace Cert.KernelIdeal.Between

open Idealize.ShloMosaic Idealize.ShloMosaic.TcCoe Idealize.SL.Sem
open Cert.KernelIdeal Cert.KernelIdeal.Gen

variable {F : FTy → Type} [FloatOps F] (X : Valuation τ sig (Elt F))

/-- The digits, transposed to time-major order and flattened to 8192 rows. -/
theorem digits : StableHlo.after hostOps0 X (Proc.devRef .tc main_v1)
    = shapeCast S8192x5 (transpose S1024x8x5 [1, 0, 2] (X (Proc.devRef .tc main_arg0)) transposes_S8x1024x5_S1024x8x5_1_0_2)
        shapeCasts_S1024x8x5_S8192x5 := by
  after_reads_simp; rfl

theorem bias_in : StableHlo.after hostOps0 X (Proc.devRef .tc main_v2)
    = shapeCast S1x640 (X (Proc.devRef .tc main_arg8)) shapeCasts_S640_S1x640 := by
  after_reads_simp; rfl

theorem bias_rec : StableHlo.after hostOps0 X (Proc.devRef .tc main_v3)
    = shapeCast S1x640 (X (Proc.devRef .tc main_arg9)) shapeCasts_S640_S1x640 := by
  after_reads_simp; rfl

/-- The hidden states in batch-major order, from the scan kernel's array. -/
def batchMajor (p : FVec F S8192x640 .f32) : FVec F S8x1024x640 .f32 :=
  transpose S8x1024x640 [1, 0, 2] (shapeCast S1024x8x640 p shapeCasts_S8192x640_S1024x8x640)
    transposes_S1024x8x640_S8x1024x640_1_0_2

/-- The last hidden state, from the hidden states. -/
def lastState (a : FVec F S8x1024x640 .f32) : FVec F S1x8x640 .f32 :=
  broadcastInDim S1x8x640 ![1, 2] bcast_S8x640_S1x8x640_1_2
    (shapeCast S8x640 (extractStridedSlice S8x1x640 ![0, 1023, 0] a slices_S8x1024x640_S8x1x640_0_1023_0)
      shapeCasts_S8x1x640_S8x640)

theorem states : StableHlo.after hostOps1 X (Proc.devRef .tc main_v6) = batchMajor (X (Proc.devRef .tc main_v4)) := by
  unfold batchMajor; after_reads_simp; rfl

theorem last : StableHlo.after hostOps1 X (Proc.devRef .tc main_v9) = lastState (batchMajor (X (Proc.devRef .tc main_v4))) := by
  unfold batchMajor lastState; after_reads_simp; rfl

theorem bias10 : StableHlo.after hostOps1 X (Proc.devRef .tc main_v10)
    = shapeCast S1x1024 (X (Proc.devRef .tc main_arg13)) shapeCasts_S1024_S1x1024 := by
  after_reads_simp; rfl
theorem bias11 : StableHlo.after hostOps1 X (Proc.devRef .tc main_v11)
    = shapeCast S1x1024 (X (Proc.devRef .tc main_arg15)) shapeCasts_S1024_S1x1024 := by
  after_reads_simp; rfl
theorem bias12 : StableHlo.after hostOps1 X (Proc.devRef .tc main_v12)
    = shapeCast S1x1024 (X (Proc.devRef .tc main_arg17)) shapeCasts_S1024_S1x1024 := by
  after_reads_simp; rfl
theorem bias13 : StableHlo.after hostOps1 X (Proc.devRef .tc main_v13)
    = shapeCast S1x1024 (X (Proc.devRef .tc main_arg19)) shapeCasts_S1024_S1x1024 := by
  after_reads_simp; rfl
theorem bias14 : StableHlo.after hostOps1 X (Proc.devRef .tc main_v14)
    = shapeCast S1x3 (X (Proc.devRef .tc main_arg11)) shapeCasts_S3_S1x3 := by
  after_reads_simp; rfl

end Cert.KernelIdeal.Between

end
-- ==== Proof.Equation.lean ====
/-
  The two recurrences compute the same blocks.

  The kernel adds both biases to its projected inputs before the loop; the reference adds the input bias before and the
  recurrent bias in every step. The extended reals' addition is commutative and associative, so each step gives the same.
-/
module

public import proofs.«01_k».proof.Proof.RefProjection
public import proofs.«01_k».proof.Proof.RefLoop
public import proofs.«01_k».proof.Proof.HostReads

@[expose] public section

set_option maxRecDepth 16384

noncomputable section

namespace Cert.Equation

open Idealize.ShloMosaic Idealize.ShloMosaic.TcCoe Idealize.SL.Sem
open Cert.KernelIdeal.Scan Cert.KernelIdeal.Between Cert.ReferenceIdeal.Entry Cert.ReferenceIdeal.Recurrence
open Cert.KernelIdeal (S8192x5 S8192x640 S8x640 S640x640 S640 S1x640 S8x1024x5 S3x128 S1025x128 S1024x8x640 S8x1024x640 S1x8x640)

/-- The kernel's step, at one entry. -/
theorem kernel_step (w : FVec Ideal S640x640 .f32) (h row : FVec Ideal S8x640 .f32) (i : Fin 8) (j : Fin 640) :
    Cert.KernelIdeal.Gen.k0_pay3 (F := Ideal) w h row (ix2 i j)
      = Ideal.tanh (row (ix2 i j) + ∑ c : Fin 640, h (ix2 i c) * w (ix2 j c)) := by
  unfold Cert.KernelIdeal.Gen.k0_pay3
  pointwise

/-- The reference's step, at one entry. -/
theorem reference_step (row : FVec Ideal S8x640 .f32) (w : FVec Ideal S640x640 .f32) (b : FVec Ideal S640 .f32)
    (h : FVec Ideal S8x640 .f32) (i : Fin 8) (j : Fin 640) :
    stepOf (F := Ideal) row w b h (ix2 i j)
      = Ideal.tanh ((row (ix2 i j) + ∑ c : Fin 640, h (ix2 i c) * w (ix2 j c)) + b (ix1 j)) := by
  unfold stepOf
  pointwise

/-- Both recurrences start from zeros. -/
theorem start_eq : Cert.KernelIdeal.Gen.k0_pay2 (F := Ideal) = zeroBlock (F := Ideal) := by
  funext y
  unfold zeroBlock Cert.KernelIdeal.Gen.k0_pay2
  pointwise

/-- The digits as the scan kernel reads them: row `8t + b` holds the five digits of sequence `b` at time `t`. -/
def flatDigits (x : IVec S8x1024x5 32) : IVec S8192x5 32 :=
  shapeCast S8192x5 (transpose Cert.KernelIdeal.S1024x8x5 [1, 0, 2] x Cert.KernelIdeal.Gen.transposes_S8x1024x5_S1024x8x5_1_0_2)
    Cert.KernelIdeal.Gen.shapeCasts_S1024x8x5_S8192x5

theorem flatDigits_apply (x : IVec S8x1024x5 32) (t : Fin 1024) (b : Fin 8) (k : Fin 5) :
    flatDigits x (ix2 ⟨8 * t.val + b.val, by omega⟩ k) = x (ix3 b t k) := by
  unfold flatDigits
  pointwise

/-- A bias as a row. -/
def asRow (b : FVec Ideal S640 .f32) : FVec Ideal S1x640 .f32 := shapeCast S1x640 b Cert.KernelIdeal.Gen.shapeCasts_S640_S1x640

theorem asRow_apply (b : FVec Ideal S640 .f32) (j : Fin 640) : asRow b (ix2 0 j) = b (ix1 j) := by
  unfold asRow
  pointwise

section

variable (x : IVec S8x1024x5 32) (e0 : FVec Ideal S3x128 .f32) (e1 e2 e3 e4 : FVec Ideal S1025x128 .f32)
  (w u : FVec Ideal S640x640 .f32) (bi bh : FVec Ideal S640 .f32)

/-- The kernel's projected inputs. -/
abbrev before : FVec Ideal S8192x640 .f32 := preactivation (F := Ideal) (flatDigits x) e0 e1 e2 e3 e4 w (asRow bi) (asRow bh)

/-- The reference's projected inputs. -/
abbrev inputs : FVec Ideal S1024x8x640 .f32 := projection (embeddings x e0 e1 e2 e3 e4) w bi

variable (hx : ∀ (b : Fin 8) (t : Fin 1024) (k : Fin 5), 0 ≤ (x (ix3 b t k)).toInt ∧ (x (ix3 b t k)).toInt < 3)

include hx

/-- The kernel's projected inputs are the reference's plus the recurrent bias. -/
theorem before_eq (t : Fin 1024) (b : Fin 8) (j : Fin 640) :
    before x e0 e1 e2 e3 e4 w bi bh (ix2 ⟨8 * t.val + b.val, by omega⟩ j)
      = inputs x e0 e1 e2 e3 e4 w bi (ix3 t b j) + bh (ix1 j) := by
  have hd : ∀ k : Fin 5, (flatDigits x (ix2 ⟨8 * t.val + b.val, by omega⟩ k)).toNat < 3 := fun k => by
    rw [flatDigits_apply]; exact digit_lt x hx b t k
  unfold before inputs
  rw [preactivation_apply _ _ _ _ _ _ _ _ _ _ _ hd, projection_apply x e0 e1 e2 e3 e4 hx w bi t b j]
  simp only [flatDigits_apply, asRow_apply]
  exact (add_assoc _ _ _).symm

/-- The carried blocks agree at every step. -/
theorem carried_eq : ∀ k : ℕ, k ≤ 1024 → carried (F := Ideal) u (before x e0 e1 e2 e3 e4 w bi bh) k
    = blockAt (F := Ideal) (inputs x e0 e1 e2 e3 e4 w bi) u bh (zeroBlock (F := Ideal)) k
  | 0, _ => start_eq
  | k + 1, hk => by
    have hp := before_eq x e0 e1 e2 e3 e4 w bi bh hx ⟨k, by omega⟩
    funext y
    obtain ⟨i, j, rfl⟩ : ∃ (i : Fin 8) (j : Fin 640), y = ix2 i j := ⟨y 0, y 1, by funext a; fin_cases a <;> rfl⟩
    refine (kernel_step u _ _ i j).trans (Eq.trans ?_ (reference_step _ u bh _ i j).symm)
    rw [carried_eq k (by omega)]
    refine congrArg Ideal.tanh ?_
    have e : rowsOf (F := Ideal) (before x e0 e1 e2 e3 e4 w bi bh) k (ix2 i j)
        = sliceOf (F := Ideal) (inputs x e0 e1 e2 e3 e4 w bi) k (ix2 i j) + bh (ix1 j) := by
      refine Eq.trans (congrArg (before x e0 e1 e2 e3 e4 w bi bh) (congrArg (ix2 · j) (Fin.ext ?_)))
        ((hp i j).trans (congrArg (· + bh (ix1 j)) (congrArg (inputs x e0 e1 e2 e3 e4 w bi) (congrArg (ix3 · i j) (Fin.ext ?_)))))
      · have := i.isLt
        exact Nat.mod_eq_of_lt (by show 8 * k + i.val < 8192; omega)
      · exact (Nat.mod_eq_of_lt (by omega)).symm
    rw [e]
    exact add_right_comm _ _ _

/-- Row `8t + b` of the kernel's final array is row `b` of the reference's block after step `t`. -/
theorem row_eq (t : Fin 1024) (b : Fin 8) (j : Fin 640) (n : ℕ) (hn : n < 8192) (e : n = 8 * t.val + b.val) :
    rowsAfter (F := Ideal) u (before x e0 e1 e2 e3 e4 w bi bh) 1024 (ix2 ⟨n, hn⟩ j)
      = blockAt (F := Ideal) (inputs x e0 e1 e2 e3 e4 w bi) u bh (zeroBlock (F := Ideal)) (t.val + 1) (ix2 b j) := by
  have ht := t.isLt
  have hb := b.isLt
  rw [← carried_eq x e0 e1 e2 e3 e4 w u bi bh hx (t.val + 1) ht]
  refine (if_pos (show n < 8 * 1024 from hn)).trans ?_
  exact congrArg₂ (fun k i => carried (F := Ideal) u (before x e0 e1 e2 e3 e4 w bi bh) k (ix2 i j))
    (show n / 8 + 1 = t.val + 1 by omega) (Fin.ext (show n % 8 = b.val by omega))

/-- The hidden states, batch first, are the same arrays. -/
theorem states_eq (o : FVec Ideal S1024x8x640 .f32) :
    batchMajor (F := Ideal) (rowsAfter (F := Ideal) u (before x e0 e1 e2 e3 e4 w bi bh) 1024)
      = transpose S8x1024x640 [1, 0, 2] (slicesAfter (F := Ideal) (inputs x e0 e1 e2 e3 e4 w bi) u bh (zeroBlock (F := Ideal)) o 1024)
          Cert.ReferenceIdeal.Gen.transposes_S1024x8x640_S8x1024x640_1_0_2 := by
  funext y
  obtain ⟨b, t, j, rfl⟩ : ∃ (b : Fin 8) (t : Fin 1024) (j : Fin 640), y = ix3 b t j :=
    ⟨y 0, y 1, y 2, by funext a; fin_cases a <;> rfl⟩
  unfold batchMajor
  pointwise
  refine (row_eq x e0 e1 e2 e3 e4 w u bi bh hx t b j _ _ (by omega)).trans ?_
  exact (if_pos t.isLt).symm

/-- The last hidden state is the same array. -/
theorem last_eq :
    lastState (F := Ideal) (batchMajor (F := Ideal) (rowsAfter (F := Ideal) u (before x e0 e1 e2 e3 e4 w bi bh) 1024))
      = broadcastInDim S1x8x640 ![1, 2] Cert.ReferenceIdeal.Gen.bcast_S8x640_S1x8x640_1_2
          (blockAt (F := Ideal) (inputs x e0 e1 e2 e3 e4 w bi) u bh (zeroBlock (F := Ideal)) 1024) := by
  funext y
  unfold lastState batchMajor
  pointwise
  exact row_eq x e0 e1 e2 e3 e4 w u bi bh hx ⟨1023, by omega⟩ (y 1) (y 2) _ _ rfl

end

end Cert.Equation

end
-- ==== Proof.HeadsValue.lean ====
/-
  What the heads kernel leaves in its five output arrays.

  Point `b` of its grid of 8 takes row block `b` of the hidden states and writes row block `b` of every output: the product
  with a head's weights, plus the head's bias.
-/
module

public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.KernelIdeal.Heads

open Idealize.ShloMosaic Idealize.ShloMosaic.TcCoe Idealize.SL.Sem
open Cert.KernelIdeal Cert.KernelIdeal.Gen

/-- The scores of a head with 1024 outputs: hidden states times weights, plus bias. -/
def scores (a : FVec Ideal S8x1024x640 .f32) (w : FVec Ideal S1024x640 .f32) (b : FVec Ideal S1x1024 .f32) :
    FVec Ideal S8x1024x1024 .f32 :=
  fun y => (∑ k : Fin 640, a (ix3 (y 0) (y 1) k) * w (ix2 (y 2) k)) + b (ix2 0 (y 2))

/-- The scores of the head with 3 outputs. -/
def scores3 (a : FVec Ideal S8x1024x640 .f32) (w : FVec Ideal S3x640 .f32) (b : FVec Ideal S1x3 .f32) :
    FVec Ideal S8x1024x3 .f32 :=
  fun y => (∑ k : Fin 640, a (ix3 (y 0) (y 1) k) * w (ix2 (y 2) k)) + b (ix2 0 (y 2))

/-- One row block of a head with 1024 outputs, at one entry. -/
theorem pay4_apply (x : FVec Ideal S1x1024x640 .f32) (w : FVec Ideal S1024x640 .f32) (b : FVec Ideal S1x1024 .f32)
    (y : S1x1024x1024.Idx) :
    k1_pay4 (F := Ideal) x w b y = (∑ k : Fin 640, x (ix3 0 (y 1) k) * w (ix2 (y 2) k)) + b (ix2 0 (y 2)) := by
  unfold k1_pay4 k1_pay3
  pointwise

/-- The other three heads with 1024 outputs compute the same function of their operands. -/
theorem pay5_eq (x : FVec Ideal S1x1024x640 .f32) (w : FVec Ideal S1024x640 .f32) (b : FVec Ideal S1x1024 .f32) :
    k1_pay5 (F := Ideal) x w b = k1_pay4 (F := Ideal) x w b := rfl

theorem pay6_eq (x : FVec Ideal S1x1024x640 .f32) (w : FVec Ideal S1024x640 .f32) (b : FVec Ideal S1x1024 .f32) :
    k1_pay6 (F := Ideal) x w b = k1_pay4 (F := Ideal) x w b := rfl

theorem pay1_eq (x : FVec Ideal S1x1024x640 .f32) (w : FVec Ideal S1024x640 .f32) (b : FVec Ideal S1x1024 .f32) :
    k1_pay1 (F := Ideal) (k1_pay3 x) w b = k1_pay4 (F := Ideal) x w b := rfl

/-- One row block of the head with 3 outputs, at one entry. -/
theorem pay2_apply (x : FVec Ideal S1x1024x640 .f32) (w : FVec Ideal S3x640 .f32) (b : FVec Ideal S1x3 .f32)
    (y : S1x1024x3.Idx) :
    k1_pay2 (F := Ideal) (k1_pay3 x) w b y = (∑ k : Fin 640, x (ix3 0 (y 1) k) * w (ix2 (y 2) k)) + b (ix2 0 (y 2)) := by
  unfold k1_pay2 k1_pay3
  pointwise

theorem zero_offsets : (![0, 0, 0] : Fin 3 → Nat) = fun _ => 0 := by
  funext a; fin_cases a <;> rfl

/-- The hidden states the last two heads read are those the first three read. -/
theorem pay7_eq (x0 : FVec Ideal S1x1024x640 .f32) (x1 x2 x3 x4 : FVec Ideal S1024x640 .f32) (x5 : FVec Ideal S3x640 .f32)
    (x6 x7 x8 x9 : FVec Ideal S1x1024 .f32) (x10 : FVec Ideal S1x3 .f32) :
    k1_pay7 (F := Ideal) x0 x1 x2 x3 x4 x5 x6 x7 x8 x9 x10 = k1_pay3 x0 := by
  unfold k1_pay7 r1_0
  rw [View.ld_unit_zero (S := S1x1024x640) zero_offsets]

/-- Every window's block index at point `t` of the grid of 8. -/
theorem block_index : ∀ t : Fin cfg1.N, win1_0.index t = ![t.val, 0, 0] ∧ win1_1.index t = ![0, 0] ∧ win1_2.index t = ![0, 0]
    ∧ win1_3.index t = ![0, 0] ∧ win1_4.index t = ![0, 0] ∧ win1_5.index t = ![0, 0] ∧ win1_6.index t = ![0, 0]
    ∧ win1_7.index t = ![0, 0] ∧ win1_8.index t = ![0, 0] ∧ win1_9.index t = ![0, 0] ∧ win1_10.index t = ![0, 0]
    ∧ win1_11.index t = ![t.val, 0, 0] ∧ win1_12.index t = ![t.val, 0, 0] ∧ win1_13.index t = ![t.val, 0, 0]
    ∧ win1_14.index t = ![t.val, 0, 0] ∧ win1_15.index t = ![t.val, 0, 0] :=
  (by decide +kernel : ∀ t : Fin grid1.N, _)

variable (V : (c : Dev nD) → (b : Ref sig .tc) → Buf (Elt Ideal) ((c : Thread nD τ).loc b))

/-- The first output array. -/
theorem array11 (c : Dev nD) : (dat1 V c).arrAt 11 cfg1.N = scores (V c main_v6) (V c main_arg12) (V c main_v10) := by
  refine (dat1 V c).arrAt_eq_of_covers 11 _ (by decide +kernel) fun t hf y => ?_
  blk_simp
  rw [after1_11]
  frame_out
  rw [pay4_apply]
  unfold scores
  blk_point [iblk1, block_index t]

/-- The second output array. -/
theorem array12 (c : Dev nD) : (dat1 V c).arrAt 12 cfg1.N = scores (V c main_v6) (V c main_arg14) (V c main_v11) := by
  refine (dat1 V c).arrAt_eq_of_covers 12 _ (by decide +kernel) fun t hf y => ?_
  blk_simp
  rw [after1_12]
  frame_out
  rw [pay5_eq, pay4_apply]
  unfold scores
  blk_point [iblk1, block_index t]

/-- The third output array. -/
theorem array13 (c : Dev nD) : (dat1 V c).arrAt 13 cfg1.N = scores (V c main_v6) (V c main_arg16) (V c main_v12) := by
  refine (dat1 V c).arrAt_eq_of_covers 13 _ (by decide +kernel) fun t hf y => ?_
  blk_simp
  rw [after1_13]
  frame_out
  rw [pay6_eq, pay4_apply]
  unfold scores
  blk_point [iblk1, block_index t]

/-- The fourth output array. -/
theorem array14 (c : Dev nD) : (dat1 V c).arrAt 14 cfg1.N = scores (V c main_v6) (V c main_arg18) (V c main_v13) := by
  refine (dat1 V c).arrAt_eq_of_covers 14 _ (by decide +kernel) fun t hf y => ?_
  blk_simp
  rw [after1_14]
  frame_out
  rw [pay7_eq, pay1_eq, pay4_apply]
  unfold scores
  blk_point [iblk1, block_index t]

/-- The fifth output array. -/
theorem array15 (c : Dev nD) : (dat1 V c).arrAt 15 cfg1.N = scores3 (V c main_v6) (V c main_arg10) (V c main_v14) := by
  refine (dat1 V c).arrAt_eq_of_covers 15 _ (by decide +kernel) fun t hf y => ?_
  blk_simp
  rw [after1_15]
  frame_out
  rw [pay7_eq, pay2_apply]
  unfold scores3
  blk_point [iblk1, block_index t]

end Cert.KernelIdeal.Heads

end
-- ==== Proof.Results.lean ====
/-
  What both programs compute, as functions of the arguments, and the reference's operations brought to that form.
-/
module

public import proofs.«01_k».proof.Proof.Equation
public import proofs.«01_k».proof.Proof.HeadsValue
public import proofs.«01_k».proof.Pre_digits_in_range

@[expose] public section

set_option maxRecDepth 16384

noncomputable section

namespace Cert.Equation

open Idealize.ShloMosaic Idealize.ShloMosaic.TcCoe Idealize.SL.Sem
open Cert.ReferenceIdeal Cert.ReferenceIdeal.Gen Cert.KernelIdeal.Heads Cert.KernelIdeal.Scan Cert.KernelIdeal.Between

/-- The reference's head with 1024 outputs, at one entry. -/
theorem head_apply (a : FVec Ideal S8x1024x640 .f32) (w : FVec Ideal S1024x640 .f32) (b : FVec Ideal S1024 .f32) (y : S8x1024x1024.Idx) :
    addf (Host.dotGeneral dot_S8x1024x640_S640x1024_S8x1024x1024_2_0_01_1_n_n none a
        (transpose S640x1024 [1, 0] w transposes_S1024x640_S640x1024_1_0))
      (broadcastInDim S8x1024x1024 ![0, 1, 2] bcast_S1x1x1024_S8x1024x1024_0_1_2 (broadcastInDim S1x1x1024 ![2] bcast_S1024_S1x1x1024_2 b)) y
    = (∑ k : Fin 640, a (ix3 (y 0) (y 1) k) * w (ix2 (y 2) k)) + b (ix1 (y 2)) := by
  pointwise

/-- The reference's head with 3 outputs, at one entry. -/
theorem head3_apply (a : FVec Ideal S8x1024x640 .f32) (w : FVec Ideal S3x640 .f32) (b : FVec Ideal S3 .f32) (y : S8x1024x3.Idx) :
    addf (Host.dotGeneral dot_S8x1024x640_S640x3_S8x1024x3_2_0_01_1_n_n none a
        (transpose S640x3 [1, 0] w transposes_S3x640_S640x3_1_0))
      (broadcastInDim S8x1024x3 ![0, 1, 2] bcast_S1x1x3_S8x1024x3_0_1_2 (broadcastInDim S1x1x3 ![2] bcast_S3_S1x1x3_2 b)) y
    = (∑ k : Fin 640, a (ix3 (y 0) (y 1) k) * w (ix2 (y 2) k)) + b (ix1 (y 2)) := by
  pointwise

/-- A head's bias as a row, at one entry. -/
theorem row1024_apply (b : FVec Ideal S1024 .f32) (j : Fin 1024) :
    shapeCast Cert.KernelIdeal.S1x1024 b Cert.KernelIdeal.Gen.shapeCasts_S1024_S1x1024 (ix2 0 j) = b (ix1 j) := by
  pointwise

theorem row3_apply (b : FVec Ideal S3 .f32) (j : Fin 3) :
    shapeCast Cert.KernelIdeal.S1x3 b Cert.KernelIdeal.Gen.shapeCasts_S3_S1x3 (ix2 0 j) = b (ix1 j) := by
  pointwise

/-- The hidden states of every sequence and time, of the arguments. -/
def hidden (x : IVec S8x1024x5 32) (e0 : FVec Ideal S3x128 .f32) (e1 e2 e3 e4 : FVec Ideal S1025x128 .f32)
    (w u : FVec Ideal S640x640 .f32) (bi bh : FVec Ideal S640 .f32) : FVec Ideal S8x1024x640 .f32 :=
  batchMajor (F := Ideal) (rowsAfter (F := Ideal) u (before x e0 e1 e2 e3 e4 w bi bh) 1024)

/-- The scores of a head with 1024 outputs, from its bias as a vector. -/
def head (a : FVec Ideal S8x1024x640 .f32) (w : FVec Ideal S1024x640 .f32) (b : FVec Ideal S1024 .f32) :
    FVec Ideal S8x1024x1024 .f32 :=
  scores a w (shapeCast Cert.KernelIdeal.S1x1024 b Cert.KernelIdeal.Gen.shapeCasts_S1024_S1x1024)

/-- The scores of the head with 3 outputs, from its bias as a vector. -/
def head3 (a : FVec Ideal S8x1024x640 .f32) (w : FVec Ideal S3x640 .f32) (b : FVec Ideal S3 .f32) :
    FVec Ideal S8x1024x3 .f32 :=
  scores3 a w (shapeCast Cert.KernelIdeal.S1x3 b Cert.KernelIdeal.Gen.shapeCasts_S3_S1x3)

/-- The reference's head with 1024 outputs is that function. -/
theorem head_eq (a : FVec Ideal S8x1024x640 .f32) (w : FVec Ideal S1024x640 .f32) (b : FVec Ideal S1024 .f32) :
    addf (Host.dotGeneral dot_S8x1024x640_S640x1024_S8x1024x1024_2_0_01_1_n_n none a
        (transpose S640x1024 [1, 0] w transposes_S1024x640_S640x1024_1_0))
      (broadcastInDim S8x1024x1024 ![0, 1, 2] bcast_S1x1x1024_S8x1024x1024_0_1_2 (broadcastInDim S1x1x1024 ![2] bcast_S1024_S1x1x1024_2 b))
    = head a w b := by
  funext y
  exact (head_apply a w b y).trans (congrArg (_ + ·) (row1024_apply b (y 2)).symm)

/-- The reference's head with 3 outputs is that function. -/
theorem head3_eq (a : FVec Ideal S8x1024x640 .f32) (w : FVec Ideal S3x640 .f32) (b : FVec Ideal S3 .f32) :
    addf (Host.dotGeneral dot_S8x1024x640_S640x3_S8x1024x3_2_0_01_1_n_n none a
        (transpose S640x3 [1, 0] w transposes_S3x640_S640x3_1_0))
      (broadcastInDim S8x1024x3 ![0, 1, 2] bcast_S1x1x3_S8x1024x3_0_1_2 (broadcastInDim S1x1x3 ![2] bcast_S3_S1x1x3_2 b))
    = head3 a w b := by
  funext y
  exact (head3_apply a w b y).trans (congrArg (_ + ·) (row3_apply b (y 2)).symm)

end Cert.Equation

end
-- ==== Proof.KernelResults.lean ====
/-
  The kernel program's six results, as functions of its arguments.
-/
module

public import proofs.«01_k».proof.Proof.KernelRun
public import proofs.«01_k».proof.Proof.ScanValue
public import proofs.«01_k».proof.Proof.Results

@[expose] public section

set_option maxRecDepth 16384

noncomputable section

namespace Cert.KernelIdeal.Whole

open Idealize.ShloMosaic Idealize.ShloMosaic.TcCoe Idealize.SL.Sem
open Cert.KernelIdeal Cert.KernelIdeal.Gen Cert.Equation

variable (m : (ℓ : Loc nD τ sig) → Buf (Elt Ideal) ℓ) (ρ : Dev nD → PrngReg) (c : Dev nD)

/-- The hidden states, of the arguments in memory. -/
abbrev hiddenOf : FVec Ideal S8x1024x640 .f32 :=
  hidden (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-- The scan kernel's output, batch first: the hidden states. -/
theorem batch_hidden : Between.batchMajor (F := Ideal) (W2 m ρ c (Proc.devRef .tc main_v4)) = hiddenOf m c := by
  have e1 : V1 m ρ c main_v1 = flatDigits (m ((c : Thread nD τ).loc main_arg0)) := Between.digits (W0 m ρ c)
  have e2 : V1 m ρ c main_v2 = asRow (m ((c : Thread nD τ).loc main_arg8)) := Between.bias_in (W0 m ρ c)
  have e3 : V1 m ρ c main_v3 = asRow (m ((c : Thread nD τ).loc main_arg9)) := Between.bias_rec (W0 m ρ c)
  have a (b : Ref sig .tc) (hb : b ∈ argRefs) : V1 m ρ c b = m ((c : Thread nD τ).loc b) := W1_args m ρ c b hb
  have h := (W2_arr m ρ c 10).trans (Scan.array_eq (V1 m ρ) c)
  rw [e1, e2, e3, a main_arg1 (by decide), a main_arg2 (by decide), a main_arg3 (by decide), a main_arg4 (by decide),
    a main_arg5 (by decide), a main_arg6 (by decide), a main_arg7 (by decide)] at h
  exact congrArg (Between.batchMajor (F := Ideal)) h

/-- The heads kernel reads the hidden states. -/
theorem v6_eq : V3 m ρ c main_v6 = hiddenOf m c := (Between.states (W2 m ρ c)).trans (batch_hidden m ρ c)

/-- The heads kernel reads the weights as launched. -/
theorem arg_eq (b : Ref sig .tc) (hb : b ∈ argRefs) : V3 m ρ c b = m ((c : Thread nD τ).loc b) := W3_args m ρ c b hb

/-- The bias of the first head, as a row. -/
theorem bias_10 : V3 m ρ c main_v10 = shapeCast S1x1024 (m ((c : Thread nD τ).loc main_arg13)) shapeCasts_S1024_S1x1024 :=
  (Between.bias10 (W2 m ρ c)).trans (congrArg (shapeCast S1x1024 · shapeCasts_S1024_S1x1024) (W2_args m ρ c main_arg13 (by decide)))
/-- The bias of the second head, as a row. -/
theorem bias_11 : V3 m ρ c main_v11 = shapeCast S1x1024 (m ((c : Thread nD τ).loc main_arg15)) shapeCasts_S1024_S1x1024 :=
  (Between.bias11 (W2 m ρ c)).trans (congrArg (shapeCast S1x1024 · shapeCasts_S1024_S1x1024) (W2_args m ρ c main_arg15 (by decide)))
/-- The bias of the third head, as a row. -/
theorem bias_12 : V3 m ρ c main_v12 = shapeCast S1x1024 (m ((c : Thread nD τ).loc main_arg17)) shapeCasts_S1024_S1x1024 :=
  (Between.bias12 (W2 m ρ c)).trans (congrArg (shapeCast S1x1024 · shapeCasts_S1024_S1x1024) (W2_args m ρ c main_arg17 (by decide)))
/-- The bias of the fourth head, as a row. -/
theorem bias_13 : V3 m ρ c main_v13 = shapeCast S1x1024 (m ((c : Thread nD τ).loc main_arg19)) shapeCasts_S1024_S1x1024 :=
  (Between.bias13 (W2 m ρ c)).trans (congrArg (shapeCast S1x1024 · shapeCasts_S1024_S1x1024) (W2_args m ρ c main_arg19 (by decide)))
/-- The bias of the head with 3 outputs, as a row. -/
theorem bias_14 : V3 m ρ c main_v14 = shapeCast S1x3 (m ((c : Thread nD τ).loc main_arg11)) shapeCasts_S3_S1x3 :=
  (Between.bias14 (W2 m ρ c)).trans (congrArg (shapeCast S1x3 · shapeCasts_S3_S1x3) (W2_args m ρ c main_arg11 (by decide)))

/-- The scores of the first head with 1024 outputs. -/
theorem result0 : W4 m ρ c (Proc.devRef .tc main_v15_0)
    = head (hiddenOf m c) (m ((c : Thread nD τ).loc main_arg12)) (m ((c : Thread nD τ).loc main_arg13)) := by
  refine (W4_arr m ρ c 11).trans ((Heads.array11 (V3 m ρ) c).trans ?_)
  rw [v6_eq, arg_eq m ρ c main_arg12 (by decide), bias_10]
  rfl

/-- The scores of the second head with 1024 outputs. -/
theorem result1 : W4 m ρ c (Proc.devRef .tc main_v15_1)
    = head (hiddenOf m c) (m ((c : Thread nD τ).loc main_arg14)) (m ((c : Thread nD τ).loc main_arg15)) := by
  refine (W4_arr m ρ c 12).trans ((Heads.array12 (V3 m ρ) c).trans ?_)
  rw [v6_eq, arg_eq m ρ c main_arg14 (by decide), bias_11]
  rfl

/-- The scores of the third head with 1024 outputs. -/
theorem result2 : W4 m ρ c (Proc.devRef .tc main_v15_2)
    = head (hiddenOf m c) (m ((c : Thread nD τ).loc main_arg16)) (m ((c : Thread nD τ).loc main_arg17)) := by
  refine (W4_arr m ρ c 13).trans ((Heads.array13 (V3 m ρ) c).trans ?_)
  rw [v6_eq, arg_eq m ρ c main_arg16 (by decide), bias_12]
  rfl

/-- The scores of the fourth head with 1024 outputs. -/
theorem result3 : W4 m ρ c (Proc.devRef .tc main_v15_3)
    = head (hiddenOf m c) (m ((c : Thread nD τ).loc main_arg18)) (m ((c : Thread nD τ).loc main_arg19)) := by
  refine (W4_arr m ρ c 14).trans ((Heads.array14 (V3 m ρ) c).trans ?_)
  rw [v6_eq, arg_eq m ρ c main_arg18 (by decide), bias_13]
  rfl

/-- The scores of the head with 3 outputs. -/
theorem result4 : W4 m ρ c (Proc.devRef .tc main_v15_4)
    = head3 (hiddenOf m c) (m ((c : Thread nD τ).loc main_arg10)) (m ((c : Thread nD τ).loc main_arg11)) := by
  refine (W4_arr m ρ c 15).trans ((Heads.array15 (V3 m ρ) c).trans ?_)
  rw [v6_eq, arg_eq m ρ c main_arg10 (by decide), bias_14]
  rfl

/-- The last hidden state. -/
theorem result5 : W4 m ρ c (Proc.devRef .tc main_v9) = Between.lastState (F := Ideal) (hiddenOf m c) :=
  (W4_of_ne m ρ c main_v9 (by decide)).trans
    ((Between.last (W2 m ρ c)).trans (congrArg (Between.lastState (F := Ideal)) (batch_hidden m ρ c)))

end Cert.KernelIdeal.Whole

end
-- ==== Proof.RefResults.lean ====
/-
  The reference program's six results, as functions of its arguments.
-/
module

public import proofs.«01_k».proof.Proof.RefEntry
public import proofs.«01_k».proof.Proof.RefLoop
public import proofs.«01_k».proof.Proof.Results

@[expose] public section

set_option maxRecDepth 16384

noncomputable section

namespace Cert.ReferenceIdeal.Whole

open Idealize.ShloMosaic Idealize.ShloMosaic.TcCoe Idealize.SL.Sem Idealize.ShloMosaic.StableHlo
open Cert.ReferenceIdeal Cert.ReferenceIdeal.Gen Cert.ReferenceIdeal.Value Cert.ReferenceIdeal.Entry Cert.ReferenceIdeal.Recurrence
open Cert.Equation Cert.KernelIdeal.Between

variable (m : (ℓ : Loc nD τ sig) → Buf (Elt Ideal) ℓ) (c : Dev nD)

/-- The hidden states, of the arguments in memory. -/
abbrev hiddenOf : FVec Ideal S8x1024x640 .f32 :=
  hidden (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9))

/-- Every digit of the index array is 0, 1 or 2. -/
def InRange (x : IVec S8x1024x5 32) : Prop :=
  ∀ (b : Fin 8) (t : Fin 1024) (k : Fin 5), 0 ≤ (x (ix3 b t k)).toInt ∧ (x (ix3 b t k)).toInt < 3

/-- The contents after the loop. -/
abbrev atEnd : Valuation τ sig (Elt Ideal) := STEP^[1024] (entryContents preI m c)

theorem final_holds : Holds (entryContents preI m c) (atEnd m c) 1024 := holds_iter (entry_number m c) 1024 le_rfl

variable (hx : InRange (m ((c.tc : Thread nD τ).loc main_arg0)))

include hx

/-- The loop's result array, batch first: the hidden states. -/
theorem final_states : transpose S8x1024x640 [1, 0, 2] (atEnd m c (Proc.devRef .tc main_v24_5)) transposes_S1024x8x640_S8x1024x640_1_0_2
    = hiddenOf m c := by
  rw [(final_holds m c).slices, entry_proj, entry_weights, entry_bias, entry_block]
  exact (states_eq _ _ _ _ _ _ _ _ _ _ hx _).symm

/-- The block carried out of the loop: the last hidden state. -/
theorem result5 : out_main_v51 (F := Ideal) (atEnd m c) = lastState (F := Ideal) (hiddenOf m c) := by
  unfold out_main_v51
  rw [(final_holds m c).block, entry_proj, entry_weights, entry_bias, entry_block]
  exact (last_eq _ _ _ _ _ _ _ _ _ _ hx).symm

/-- The scores of the first head with 1024 outputs. -/
theorem result0 : out_main_v35 (F := Ideal) (atEnd m c)
    = head (hiddenOf m c) (m ((c.tc : Thread nD τ).loc main_arg12)) (m ((c.tc : Thread nD τ).loc main_arg13)) := by
  unfold out_main_v35
  rw [final_states m c hx]
  unfold atEnd
  rw [iter_main_arg12, iter_main_arg13]
  exact head_eq _ _ _

/-- The scores of the second head with 1024 outputs. -/
theorem result1 : out_main_v40 (F := Ideal) (atEnd m c)
    = head (hiddenOf m c) (m ((c.tc : Thread nD τ).loc main_arg14)) (m ((c.tc : Thread nD τ).loc main_arg15)) := by
  unfold out_main_v40
  rw [final_states m c hx]
  unfold atEnd
  rw [iter_main_arg14, iter_main_arg15]
  exact head_eq _ _ _

/-- The scores of the third head with 1024 outputs. -/
theorem result2 : out_main_v45 (F := Ideal) (atEnd m c)
    = head (hiddenOf m c) (m ((c.tc : Thread nD τ).loc main_arg16)) (m ((c.tc : Thread nD τ).loc main_arg17)) := by
  unfold out_main_v45
  rw [final_states m c hx]
  unfold atEnd
  rw [iter_main_arg16, iter_main_arg17]
  exact head_eq _ _ _

/-- The scores of the fourth head with 1024 outputs. -/
theorem result3 : out_main_v50 (F := Ideal) (atEnd m c)
    = head (hiddenOf m c) (m ((c.tc : Thread nD τ).loc main_arg18)) (m ((c.tc : Thread nD τ).loc main_arg19)) := by
  unfold out_main_v50
  rw [final_states m c hx]
  unfold atEnd
  rw [iter_main_arg18, iter_main_arg19]
  exact head_eq _ _ _

/-- The scores of the head with 3 outputs. -/
theorem result4 : out_main_v30 (F := Ideal) (atEnd m c)
    = head3 (hiddenOf m c) (m ((c.tc : Thread nD τ).loc main_arg10)) (m ((c.tc : Thread nD τ).loc main_arg11)) := by
  unfold out_main_v30
  rw [final_states m c hx]
  unfold atEnd
  rw [iter_main_arg10, iter_main_arg11]
  exact head3_eq _ _ _

end Cert.ReferenceIdeal.Whole

end
-- ==== Proof.Claims.lean ====
/-
  The claims, from the two programs' runs.
-/
module

public import proofs.«01_k».proof.Defs
public import proofs.«01_k».proof.Proof.KernelResults
public import proofs.«01_k».proof.Proof.RefResults
public import Idealize.ShloMosaic.Lib.Claim
public import Idealize.ShloMosaic.Lib.Quiescent

@[expose] public section

set_option maxRecDepth 16384

noncomputable section

namespace Cert.Equation

open Idealize.ShloMosaic Idealize.ShloMosaic.TcCoe Idealize.SL.Sem

/-- The precondition's side condition. -/
theorem preFacts : Cert.Pre_digits_in_range.Facts := ⟨by decide⟩

/-- Two one-bit truth values whose conjunction is one are both true. -/
theorem and_one {p q : Bool} (h : BitVec.ofBool p &&& BitVec.ofBool q = 1#1) : p = true ∧ q = true := by
  revert h; cases p <;> cases q <;> decide

/-- Where the precondition holds, every digit is 0, 1 or 2. -/
theorem in_range (m : (ℓ : Loc Cert.KernelIdeal.nD Cert.KernelIdeal.τ Cert.KernelIdeal.sig) → Buf (Elt Ideal) ℓ)
    (h : Cert.Pre_KernelIdeal_digits_in_range (hPre_digits_in_range := preFacts) m) (c : Dev Cert.KernelIdeal.nD) :
    Cert.ReferenceIdeal.Whole.InRange (m ((c.tc : Thread Cert.KernelIdeal.nD Cert.KernelIdeal.τ).loc Cert.KernelIdeal.main_arg0)) := by
  intro b t k
  have e := congrFun (h c) (ix3 b t k)
  obtain ⟨h0, h3⟩ := and_one e
  constructor
  · exact of_decide_eq_true h0
  · exact of_decide_eq_true h3

/-- The reference runs, its arguments end unchanged and every semaphore is back at zero. -/
theorem reference_frame : Cert.quiescent_ReferenceIdeal (hReferenceIdeal := Cert.ReferenceIdeal.Gen.facts) := fun m g _ =>
  θ_run_mono (Cert.ReferenceIdeal.Value.run m g) fun r h => ⟨fun c => (h c).2.2.2.2.2.2, sem_eq_zero_of_no_sems (by decide) r.2⟩

/-- No argument is a staging buffer. -/
theorem args_unscoped : ∀ a ∈ Cert.KernelIdeal.Gen.argRefs,
    ¬ (Proc.devRef .tc a : DevRef Cert.KernelIdeal.τ Cert.KernelIdeal.sig).isScoped := by decide

open Cert.KernelIdeal Cert.KernelIdeal.Gen Cert.KernelIdeal.Whole in
/-- The kernel runs to its six results, its arguments unchanged. -/
theorem kernel_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v15_4) = head3 (hiddenOf m c) (m ((c.tc : Thread nD τ).loc main_arg10)) (m ((c.tc : Thread nD τ).loc main_arg11))
      ∧ r.2.mem ((c.tc : Thread nD τ).loc main_v15_0) = head (hiddenOf m c) (m ((c.tc : Thread nD τ).loc main_arg12)) (m ((c.tc : Thread nD τ).loc main_arg13))
      ∧ r.2.mem ((c.tc : Thread nD τ).loc main_v15_1) = head (hiddenOf m c) (m ((c.tc : Thread nD τ).loc main_arg14)) (m ((c.tc : Thread nD τ).loc main_arg15))
      ∧ r.2.mem ((c.tc : Thread nD τ).loc main_v15_2) = head (hiddenOf m c) (m ((c.tc : Thread nD τ).loc main_arg16)) (m ((c.tc : Thread nD τ).loc main_arg17))
      ∧ r.2.mem ((c.tc : Thread nD τ).loc main_v15_3) = head (hiddenOf m c) (m ((c.tc : Thread nD τ).loc main_arg18)) (m ((c.tc : Thread nD τ).loc main_arg19))
      ∧ r.2.mem ((c.tc : Thread nD τ).loc main_v9) = Between.lastState (F := Ideal) (hiddenOf m c)
      ∧ ∀ a ∈ argRefs, r.2.mem ((c.tc : Thread nD τ).loc a) = m ((c.tc : Thread nD τ).loc a)) :=
  θ_run_mono (run_whole m g) fun r h c =>
    ⟨(h c _ (mem_uc main_v15_4 (by decide))).trans (result4 m g c), (h c _ (mem_uc main_v15_0 (by decide))).trans (result0 m g c),
     (h c _ (mem_uc main_v15_1 (by decide))).trans (result1 m g c), (h c _ (mem_uc main_v15_2 (by decide))).trans (result2 m g c),
     (h c _ (mem_uc main_v15_3 (by decide))).trans (result3 m g c), (h c _ (mem_uc main_v9 (by decide))).trans (result5 m g c),
     fun a ha => (h c _ (mem_uc a (args_unscoped a ha))).trans (W4_args m g c a ha)⟩

/-- Both programs compute the same hidden states from the same arguments. -/
theorem hidden_eq {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} {c : Dev Cert.KernelIdeal.nD}
    (a0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5)
      = m ((c.tc : Thread Cert.KernelIdeal.nD Cert.KernelIdeal.τ).loc Cert.KernelIdeal.main_arg5))
    (a6 : m' ((c.tc : Thread Cert.ReferenceIdeal.nD Cert.ReferenceIdeal.τ).loc Cert.ReferenceIdeal.main_arg6)
      = m ((c.tc : Thread Cert.KernelIdeal.nD Cert.KernelIdeal.τ).loc Cert.KernelIdeal.main_arg6))
    (a7 : m' ((c.tc : Thread Cert.ReferenceIdeal.nD Cert.ReferenceIdeal.τ).loc Cert.ReferenceIdeal.main_arg7)
      = m ((c.tc : Thread Cert.KernelIdeal.nD Cert.KernelIdeal.τ).loc Cert.KernelIdeal.main_arg7))
    (a8 : m' ((c.tc : Thread Cert.ReferenceIdeal.nD Cert.ReferenceIdeal.τ).loc Cert.ReferenceIdeal.main_arg8)
      = m ((c.tc : Thread Cert.KernelIdeal.nD Cert.KernelIdeal.τ).loc Cert.KernelIdeal.main_arg8))
    (a9 : m' ((c.tc : Thread Cert.ReferenceIdeal.nD Cert.ReferenceIdeal.τ).loc Cert.ReferenceIdeal.main_arg9)
      = m ((c.tc : Thread Cert.KernelIdeal.nD Cert.KernelIdeal.τ).loc Cert.KernelIdeal.main_arg9)) :
    Cert.ReferenceIdeal.Whole.hiddenOf m' c = Cert.KernelIdeal.Whole.hiddenOf m c := by
  unfold Cert.ReferenceIdeal.Whole.hiddenOf Cert.KernelIdeal.Whole.hiddenOf
  rw [a0, a1, a2, a3, a4, a5, a6, a7, a8, a9]

open Cert.KernelIdeal Cert.KernelIdeal.Whole in
/-- From the same arguments, with every digit 0, 1 or 2, the kernel and the reference end with the same six results. -/
theorem algebraic : Cert.algebraic_KernelIdeal_ReferenceIdeal_pre_digits_in_range (hKernelIdeal := Cert.KernelIdeal.Gen.facts)
    (hReferenceIdeal := Cert.ReferenceIdeal.Gen.facts) (hPre_digits_in_range := preFacts) := by
  intro m g m' g' hpre hargs
  refine ⟨fun c => head3 (hiddenOf m c) (m ((c.tc : Thread nD τ).loc main_arg10)) (m ((c.tc : Thread nD τ).loc main_arg11)),
    fun c => head (hiddenOf m c) (m ((c.tc : Thread nD τ).loc main_arg12)) (m ((c.tc : Thread nD τ).loc main_arg13)),
    fun c => head (hiddenOf m c) (m ((c.tc : Thread nD τ).loc main_arg14)) (m ((c.tc : Thread nD τ).loc main_arg15)),
    fun c => head (hiddenOf m c) (m ((c.tc : Thread nD τ).loc main_arg16)) (m ((c.tc : Thread nD τ).loc main_arg17)),
    fun c => head (hiddenOf m c) (m ((c.tc : Thread nD τ).loc main_arg18)) (m ((c.tc : Thread nD τ).loc main_arg19)),
    fun c => Between.lastState (F := Ideal) (hiddenOf m c),
    θ_run_mono (kernel_run m g) fun r h c => ?_, θ_run_mono (Cert.ReferenceIdeal.Value.run m' g') fun r h c => ?_⟩
  · obtain ⟨h4, h0, h1, h2, h3, h5, ha⟩ := h c
    refine ⟨h4, h0, h1, h2, h3, h5, ?_⟩
    (repeat' apply And.intro) <;> exact ha _ (by decide)
  · obtain ⟨a0, a1, a2, a3, a4, a5, a6, a7, a8, a9, a10, a11, a12, a13, a14, a15, a16, a17, a18, a19⟩ := hargs c
    obtain ⟨h4, h0, h1, h2, h3, h5, ha⟩ := h c
    have e := hidden_eq a0 a1 a2 a3 a4 a5 a6 a7 a8 a9
    have hx : Cert.ReferenceIdeal.Whole.InRange
        (m' ((c.tc : Thread Cert.ReferenceIdeal.nD Cert.ReferenceIdeal.τ).loc Cert.ReferenceIdeal.main_arg0)) := by
      rw [a0]; exact in_range m hpre c
    refine ⟨h4.trans ((Cert.ReferenceIdeal.Whole.result4 m' c hx).trans ?_), h0.trans ((Cert.ReferenceIdeal.Whole.result0 m' c hx).trans ?_),
      h1.trans ((Cert.ReferenceIdeal.Whole.result1 m' c hx).trans ?_), h2.trans ((Cert.ReferenceIdeal.Whole.result2 m' c hx).trans ?_),
      h3.trans ((Cert.ReferenceIdeal.Whole.result3 m' c hx).trans ?_), h5.trans ((Cert.ReferenceIdeal.Whole.result5 m' c hx).trans ?_), ha⟩
    · rw [e, a10, a11]
    · rw [e, a12, a13]
    · rw [e, a14, a15]
    · rw [e, a16, a17]
    · rw [e, a18, a19]
    · rw [e]

end Cert.Equation

end
-- ==== Proof.lean ====
/-
  The certificate: the three frames, the preservation, and the value claim.
-/
module

public import proofs.«01_k».proof.Defs
public import proofs.«01_k».proof.Proof.Gen.Kernel.Frame
public import proofs.«01_k».proof.Proof.Claims

@[expose] public section

noncomputable section

namespace Cert.Proof

open Idealize.ShloMosaic Idealize.SL.Sem

/-- Everything the certificate claims: each program runs to the end with its arguments unchanged and its semaphores at zero,
    the idealized kernel is the kernel's, and it ends with the reference's six results. -/
theorem claim : Cert.Claim :=
  ⟨Cert.Kernel.Gen.facts, Cert.KernelIdeal.Gen.facts, Cert.ReferenceIdeal.Gen.facts, Cert.Equation.preFacts,
    fun m g _ => Cert.Kernel.Gen.frame m g, fun m g _ => Cert.KernelIdeal.Gen.frame m g,
    fun m g _ => Cert.KernelIdeal.Gen.frame m g, Cert.Equation.reference_frame, fun m g _ => Cert.Equation.reference_frame m g trivial,
    trivial, Cert.Equation.algebraic⟩

end Cert.Proof

end
